-- ==== Defs.lean ====
def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8)
      ∧ r.2.mem ((c.tc : Thread Cert.Qkv.nD Cert.Qkv.τ).loc Cert.Qkv.main_arg9) = m ((c.tc : Thread Cert.Qkv.nD Cert.Qkv.τ).loc Cert.Qkv.main_arg9)
      ∧ r.2.mem ((c.tc : Thread Cert.Qkv.nD Cert.Qkv.τ).loc Cert.Qkv.main_arg10) = m ((c.tc : Thread Cert.Qkv.nD Cert.Qkv.τ).loc Cert.Qkv.main_arg10)
      ∧ r.2.mem ((c.tc : Thread Cert.Qkv.nD Cert.Qkv.τ).loc Cert.Qkv.main_arg11) = m ((c.tc : Thread Cert.Qkv.nD Cert.Qkv.τ).loc Cert.Qkv.main_arg11))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
      ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
      ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9)
      ∧ r.2.mem ((c.tc : Thread Cert.QkvRefIdeal.nD Cert.QkvRefIdeal.τ).loc Cert.QkvRefIdeal.main_arg10) = m ((c.tc : Thread Cert.QkvRefIdeal.nD Cert.QkvRefIdeal.τ).loc Cert.QkvRefIdeal.main_arg10)
      ∧ r.2.mem ((c.tc : Thread Cert.QkvRefIdeal.nD Cert.QkvRefIdeal.τ).loc Cert.QkvRefIdeal.main_arg11) = m ((c.tc : Thread Cert.QkvRefIdeal.nD Cert.QkvRefIdeal.τ).loc Cert.QkvRefIdeal.main_arg11))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)
      ∧ m' ((c.tc : Thread Cert.QkvRefIdeal.nD Cert.QkvRefIdeal.τ).loc Cert.QkvRefIdeal.main_arg9) = m ((c.tc : Thread Cert.QkvIdeal.nD Cert.QkvIdeal.τ).loc Cert.QkvIdeal.main_arg9)
      ∧ m' ((c.tc : Thread Cert.QkvRefIdeal.nD Cert.QkvRefIdeal.τ).loc Cert.QkvRefIdeal.main_arg10) = m ((c.tc : Thread Cert.QkvIdeal.nD Cert.QkvIdeal.τ).loc Cert.QkvIdeal.main_arg10)
      ∧ m' ((c.tc : Thread Cert.QkvRefIdeal.nD Cert.QkvRefIdeal.τ).loc Cert.QkvRefIdeal.main_arg11) = m ((c.tc : Thread Cert.QkvIdeal.nD Cert.QkvIdeal.τ).loc Cert.QkvIdeal.main_arg11)) →
    ∃ (v0 : (c : Dev Cert.QkvIdeal.nD) → Buf (Elt Ideal) ((c.tc : Thread Cert.QkvIdeal.nD Cert.QkvIdeal.τ).loc Cert.QkvIdeal.main_v0_0)) (v1 : (c : Dev Cert.QkvIdeal.nD) → Buf (Elt Ideal) ((c.tc : Thread Cert.QkvIdeal.nD Cert.QkvIdeal.τ).loc Cert.QkvIdeal.main_v0_1)) (v2 : (c : Dev Cert.QkvIdeal.nD) → Buf (Elt Ideal) ((c.tc : Thread Cert.QkvIdeal.nD Cert.QkvIdeal.τ).loc Cert.QkvIdeal.main_v0_2)) (v3 : (c : Dev Cert.QkvIdeal.nD) → Buf (Elt Ideal) ((c.tc : Thread Cert.QkvIdeal.nD Cert.QkvIdeal.τ).loc Cert.QkvIdeal.main_v0_3)) (v4 : (c : Dev Cert.QkvIdeal.nD) → Buf (Elt Ideal) ((c.tc : Thread Cert.QkvIdeal.nD Cert.QkvIdeal.τ).loc Cert.QkvIdeal.main_v0_4)) (v5 : (c : Dev Cert.QkvIdeal.nD) → Buf (Elt Ideal) ((c.tc : Thread Cert.QkvIdeal.nD Cert.QkvIdeal.τ).loc Cert.QkvIdeal.main_v0_5)) (v6 : (c : Dev Cert.QkvIdeal.nD) → Buf (Elt Ideal) ((c.tc : Thread Cert.QkvIdeal.nD Cert.QkvIdeal.τ).loc Cert.QkvIdeal.main_v0_6)) (v7 : (c : Dev Cert.QkvIdeal.nD) → Buf (Elt Ideal) ((c.tc : Thread Cert.QkvIdeal.nD Cert.QkvIdeal.τ).loc Cert.QkvIdeal.main_v0_7)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0_0) = v0 c
          ∧ r.2.mem ((c.tc : Thread Cert.QkvIdeal.nD Cert.QkvIdeal.τ).loc Cert.QkvIdeal.main_v0_1) = v1 c
          ∧ r.2.mem ((c.tc : Thread Cert.QkvIdeal.nD Cert.QkvIdeal.τ).loc Cert.QkvIdeal.main_v0_2) = v2 c
          ∧ r.2.mem ((c.tc : Thread Cert.QkvIdeal.nD Cert.QkvIdeal.τ).loc Cert.QkvIdeal.main_v0_3) = v3 c
          ∧ r.2.mem ((c.tc : Thread Cert.QkvIdeal.nD Cert.QkvIdeal.τ).loc Cert.QkvIdeal.main_v0_4) = v4 c
          ∧ r.2.mem ((c.tc : Thread Cert.QkvIdeal.nD Cert.QkvIdeal.τ).loc Cert.QkvIdeal.main_v0_5) = v5 c
          ∧ r.2.mem ((c.tc : Thread Cert.QkvIdeal.nD Cert.QkvIdeal.τ).loc Cert.QkvIdeal.main_v0_6) = v6 c
          ∧ r.2.mem ((c.tc : Thread Cert.QkvIdeal.nD Cert.QkvIdeal.τ).loc Cert.QkvIdeal.main_v0_7) = v7 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
          ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
          ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10)
          ∧ r.2.mem ((c.tc : Thread Cert.QkvIdeal.nD Cert.QkvIdeal.τ).loc Cert.QkvIdeal.main_arg11) = m ((c.tc : Thread Cert.QkvIdeal.nD Cert.QkvIdeal.τ).loc Cert.QkvIdeal.main_arg11))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v0_0) = v0 c
          ∧ r.2.mem ((c.tc : Thread Cert.QkvRefIdeal.nD Cert.QkvRefIdeal.τ).loc Cert.QkvRefIdeal.main_v0_1) = v1 c
          ∧ r.2.mem ((c.tc : Thread Cert.QkvRefIdeal.nD Cert.QkvRefIdeal.τ).loc Cert.QkvRefIdeal.main_v0_2) = v2 c
          ∧ r.2.mem ((c.tc : Thread Cert.QkvRefIdeal.nD Cert.QkvRefIdeal.τ).loc Cert.QkvRefIdeal.main_v0_3) = v3 c
          ∧ r.2.mem ((c.tc : Thread Cert.QkvRefIdeal.nD Cert.QkvRefIdeal.τ).loc Cert.QkvRefIdeal.main_v0_4) = v4 c
          ∧ r.2.mem ((c.tc : Thread Cert.QkvRefIdeal.nD Cert.QkvRefIdeal.τ).loc Cert.QkvRefIdeal.main_v0_5) = v5 c
          ∧ r.2.mem ((c.tc : Thread Cert.QkvRefIdeal.nD Cert.QkvRefIdeal.τ).loc Cert.QkvRefIdeal.main_v0_6) = v6 c
          ∧ r.2.mem ((c.tc : Thread Cert.QkvRefIdeal.nD Cert.QkvRefIdeal.τ).loc Cert.QkvRefIdeal.main_v0_7) = v7 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8)
          ∧ r.2.mem ((c.tc : Thread Cert.QkvRefIdeal.nD Cert.QkvRefIdeal.τ).loc Cert.QkvRefIdeal.main_arg9) = m' ((c.tc : Thread Cert.QkvRefIdeal.nD Cert.QkvRefIdeal.τ).loc Cert.QkvRefIdeal.main_arg9)
          ∧ r.2.mem ((c.tc : Thread Cert.QkvRefIdeal.nD Cert.QkvRefIdeal.τ).loc Cert.QkvRefIdeal.main_arg10) = m' ((c.tc : Thread Cert.QkvRefIdeal.nD Cert.QkvRefIdeal.τ).loc Cert.QkvRefIdeal.main_arg10)
          ∧ r.2.mem ((c.tc : Thread Cert.QkvRefIdeal.nD Cert.QkvRefIdeal.τ).loc Cert.QkvRefIdeal.main_arg11) = m' ((c.tc : Thread Cert.QkvRefIdeal.nD Cert.QkvRefIdeal.τ).loc Cert.QkvRefIdeal.main_arg11))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v0_0) = v0 c
          ∧ r.2.mem ((c.tc : Thread Cert.GateUpRefIdeal.nD Cert.GateUpRefIdeal.τ).loc Cert.GateUpRefIdeal.main_v0_1) = v1 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def Claim : Prop :=
  ∃ (hQkv : Cert.Qkv.Facts) (hQkvIdeal : Cert.QkvIdeal.Facts) (hQkvRefIdeal : Cert.QkvRefIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts),
    quiescent_Qkv (hQkv := hQkv)
    ∧ quiescent_QkvIdeal (hQkvIdeal := hQkvIdeal)
    ∧ quiescent_QkvRefIdeal (hQkvRefIdeal := hQkvRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ preserves_Qkv_QkvIdeal
    ∧ algebraic_QkvIdeal_QkvRefIdeal (hQkvIdeal := hQkvIdeal) (hQkvRefIdeal := hQkvRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
-- ==== Qkv.lean ====
abbrev S4608x4096 : Shape := ⟨2, ![4608, 4096]⟩
abbrev S1x4096 : Shape := ⟨2, ![1, 4096]⟩
abbrev S1x128 : Shape := ⟨2, ![1, 128]⟩
abbrev S6x256x64 : Shape := ⟨3, ![6, 256, 64]⟩
abbrev S4096x3072 : Shape := ⟨2, ![4096, 3072]⟩
abbrev S1 : Shape := ⟨1, ![1]⟩
abbrev S16 : Shape := ⟨1, ![16]⟩
abbrev S4 : Shape := ⟨1, ![4]⟩
abbrev S4608x2048 : Shape := ⟨2, ![4608, 2048]⟩
abbrev S4608x512 : Shape := ⟨2, ![4608, 512]⟩
abbrev S256x4096 : Shape := ⟨2, ![256, 4096]⟩
abbrev S1x256x64 : Shape := ⟨3, ![1, 256, 64]⟩
abbrev S256x2048 : Shape := ⟨2, ![256, 2048]⟩
abbrev S256x512 : Shape := ⟨2, ![256, 512]⟩
abbrev S32x128 : Shape := ⟨2, ![32, 128]⟩
abbrev S24x8x128 : Shape := ⟨3, ![24, 8, 128]⟩
abbrev S128x128 : Shape := ⟨2, ![128, 128]⟩
abbrev S8x128 : Shape := ⟨2, ![8, 128]⟩
abbrev S256x64 : Shape := ⟨2, ![256, 64]⟩
abbrev S256x128 : Shape := ⟨2, ![256, 128]⟩
abbrev S4096x256 : Shape := ⟨2, ![4096, 256]⟩
abbrev S256x256 : Shape := ⟨2, ![256, 256]⟩
abbrev S256 : Shape := ⟨1, ![256]⟩
abbrev S256x1 : Shape := ⟨2, ![256, 1]⟩
abbrev S1x8x128 : Shape := ⟨3, ![1, 8, 128]⟩
abbrev S32x8x128 : Shape := ⟨3, ![32, 8, 128]⟩
abbrev S1x32x128 : Shape := ⟨3, ![1, 32, 128]⟩
abbrev S1x1x1 : Shape := ⟨3, ![1, 1, 1]⟩

abbrev nBuf : Space → Nat
  | .hbm => 20
  | .vmem => 20
  | .smem => 9
  | _ => 0

abbrev bufTy : (tb : Table) → Fin (tcTables nBuf tb) → BufTy
  | .hbm, ⟨0, _⟩ => ⟨S4608x4096, .bf16⟩
  | .hbm, ⟨1, _⟩ => ⟨S1x4096, .f32⟩
  | .hbm, ⟨2, _⟩ => ⟨S1x128, .f32⟩
  | .hbm, ⟨3, _⟩ => ⟨S1x128, .f32⟩
  | .hbm, ⟨4, _⟩ => ⟨S6x256x64, .f32⟩
  | .hbm, ⟨5, _⟩ => ⟨S6x256x64, .f32⟩
  | .hbm, ⟨6, _⟩ => ⟨S4096x3072, .fp8e4m3⟩
  | .hbm, ⟨7, _⟩ => ⟨S1, .f32⟩
  | .hbm, ⟨8, _⟩ => ⟨S1, .f32⟩
  | .hbm, ⟨9, _⟩ => ⟨S16, .f32⟩
  | .hbm, ⟨10, _⟩ => ⟨S4, .f32⟩
  | .hbm, ⟨11, _⟩ => ⟨S4, .f32⟩
  | .hbm, ⟨12, _⟩ => ⟨S4608x4096, .fp8e4m3⟩
  | .hbm, ⟨13, _⟩ => ⟨S4608x2048, .fp8e4m3⟩
  | .hbm, ⟨14, _⟩ => ⟨S4608x512, .fp8e4m3⟩
  | .hbm, ⟨15, _⟩ => ⟨S4608x512, .fp8e4m3⟩
  | .hbm, ⟨16, _⟩ => ⟨S1, .f32⟩
  | .hbm, ⟨17, _⟩ => ⟨S16, .f32⟩
  | .hbm, ⟨18, _⟩ => ⟨S4, .f32⟩
  | .hbm, ⟨19, _⟩ => ⟨S4, .f32⟩
  | .local _ .vmem, ⟨0, _⟩ => ⟨S256x4096, .bf16⟩
  | .local _ .vmem, ⟨1, _⟩ => ⟨S256x4096, .bf16⟩
  | .local _ .vmem, ⟨2, _⟩ => ⟨S1x4096, .f32⟩
  | .local _ .vmem, ⟨3, _⟩ => ⟨S1x128, .f32⟩
  | .local _ .vmem, ⟨4, _⟩ => ⟨S1x128, .f32⟩
  | .local _ .vmem, ⟨5, _⟩ => ⟨S1x256x64, .f32⟩
  | .local _ .vmem, ⟨6, _⟩ => ⟨S1x256x64, .f32⟩
  | .local _ .vmem, ⟨7, _⟩ => ⟨S1x256x64, .f32⟩
  | .local _ .vmem, ⟨8, _⟩ => ⟨S1x256x64, .f32⟩
  | .local _ .vmem, ⟨9, _⟩ => ⟨S4096x3072, .fp8e4m3⟩
  | .local _ .vmem, ⟨10, _⟩ => ⟨S256x4096, .fp8e4m3⟩
  | .local _ .vmem, ⟨11, _⟩ => ⟨S256x4096, .fp8e4m3⟩
  | .local _ .vmem, ⟨12, _⟩ => ⟨S256x2048, .fp8e4m3⟩
  | .local _ .vmem, ⟨13, _⟩ => ⟨S256x2048, .fp8e4m3⟩
  | .local _ .vmem, ⟨14, _⟩ => ⟨S256x512, .fp8e4m3⟩
  | .local _ .vmem, ⟨15, _⟩ => ⟨S256x512, .fp8e4m3⟩
  | .local _ .vmem, ⟨16, _⟩ => ⟨S256x512, .fp8e4m3⟩
  | .local _ .vmem, ⟨17, _⟩ => ⟨S256x512, .fp8e4m3⟩
  | .local _ .vmem, ⟨18, _⟩ => ⟨S32x128, .f32⟩
  | .local _ .vmem, ⟨19, _⟩ => ⟨S24x8x128, .f32⟩
  | .local _ .smem, ⟨0, _⟩ => ⟨S1, .f32⟩
  | .local _ .smem, ⟨1, _⟩ => ⟨S1, .f32⟩
  | .local _ .smem, ⟨2, _⟩ => ⟨S16, .f32⟩
  | .local _ .smem, ⟨3, _⟩ => ⟨S4, .f32⟩
  | .local _ .smem, ⟨4, _⟩ => ⟨S4, .f32⟩
  | .local _ .smem, ⟨5, _⟩ => ⟨S1, .f32⟩
  | .local _ .smem, ⟨6, _⟩ => ⟨S16, .f32⟩
  | .local _ .smem, ⟨7, _⟩ => ⟨S4, .f32⟩
  | .local _ .smem, ⟨8, _⟩ => ⟨S4, .f32⟩
  | _, _ => ⟨S4608x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | .smem, ⟨8, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev cc0_stg5_0 : Ref sig .tc := ⟨.vmem, 0, rfl⟩
abbrev cc0_stg5_1 : Ref sig .tc := ⟨.vmem, 1, rfl⟩
abbrev cc0_stg6_0 : Ref sig .tc := ⟨.vmem, 2, rfl⟩
abbrev cc0_stg7_0 : Ref sig .tc := ⟨.vmem, 3, rfl⟩
abbrev cc0_stg8_0 : Ref sig .tc := ⟨.vmem, 4, rfl⟩
abbrev cc0_stg9_0 : Ref sig .tc := ⟨.vmem, 5, rfl⟩
abbrev cc0_stg9_1 : Ref sig .tc := ⟨.vmem, 6, rfl⟩
abbrev cc0_stg10_0 : Ref sig .tc := ⟨.vmem, 7, rfl⟩
abbrev cc0_stg10_1 : Ref sig .tc := ⟨.vmem, 8, rfl⟩
abbrev cc0_stg11_0 : Ref sig .tc := ⟨.vmem, 9, rfl⟩
abbrev cc0_stg12_0 : Ref sig .tc := ⟨.vmem, 10, rfl⟩
abbrev cc0_stg12_1 : Ref sig .tc := ⟨.vmem, 11, rfl⟩
abbrev cc0_stg13_0 : Ref sig .tc := ⟨.vmem, 12, rfl⟩
abbrev cc0_stg13_1 : Ref sig .tc := ⟨.vmem, 13, rfl⟩
abbrev cc0_stg14_0 : Ref sig .tc := ⟨.vmem, 14, rfl⟩
abbrev cc0_stg14_1 : Ref sig .tc := ⟨.vmem, 15, rfl⟩
abbrev cc0_stg15_0 : Ref sig .tc := ⟨.vmem, 16, rfl⟩
abbrev cc0_stg15_1 : Ref sig .tc := ⟨.vmem, 17, rfl⟩
abbrev cc0_scratch0 : Ref sig .tc := ⟨.vmem, 18, rfl⟩
abbrev cc0_scratch1 : Ref sig .tc := ⟨.vmem, 19, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_stg16_0 : Ref sig .tc := ⟨.smem, 5, rfl⟩
abbrev cc0_stg17_0 : Ref sig .tc := ⟨.smem, 6, rfl⟩
abbrev cc0_stg18_0 : Ref sig .tc := ⟨.smem, 7, rfl⟩
abbrev cc0_stg19_0 : Ref sig .tc := ⟨.smem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem17_0 : DmaSem sig := 24
abbrev cc0_sem18_0 : DmaSem sig := 25
abbrev cc0_sem19_0 : DmaSem sig := 26

abbrev nD : Nat := 1
abbrev τ : Topo := Topo.v7x

variable {F : FTy → Type} [FloatOps F]

abbrev grid0 : Pipeline.Grid := ⟨1, ![18], ![false]⟩

def k0_cond2 (i : grid0.Coords) : BitVec 1 :=
  let arg0 : BitVec 32 := BitVec.ofNat 32 (i 0).val
  let c17_i32 : BitVec 32 := 17#32
  let v6105 : BitVec 1 := Scalar.cmpi .eq arg0 c17_i32
  let v6106 : BitVec 32 := Scalar.extui v6105
  let c0_i32_2971 : BitVec 32 := 0#32
  let v6107 : BitVec 1 := Scalar.cmpi .ne v6106 c0_i32_2971
  v6107

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x256x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4096x3072 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x4096 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .fp8e4m3 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .smem S1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .smem S16 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .smem S4 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .smem S4 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== QkvRefIdeal.lean ====
abbrev S4608x4096 : Shape := ⟨2, ![4608, 4096]⟩
abbrev S1x4096 : Shape := ⟨2, ![1, 4096]⟩
abbrev S1x128 : Shape := ⟨2, ![1, 128]⟩
abbrev S6x256x64 : Shape := ⟨3, ![6, 256, 64]⟩
abbrev S4096x3072 : Shape := ⟨2, ![4096, 3072]⟩
abbrev S1 : Shape := ⟨1, ![1]⟩
abbrev S16 : Shape := ⟨1, ![16]⟩
abbrev S4 : Shape := ⟨1, ![4]⟩
abbrev S4608x2048 : Shape := ⟨2, ![4608, 2048]⟩
abbrev S4608x512 : Shape := ⟨2, ![4608, 512]⟩
abbrev S4608 : Shape := ⟨1, ![4608]⟩
abbrev S4608x1 : Shape := ⟨2, ![4608, 1]⟩
abbrev S1x4608x4096 : Shape := ⟨3, ![1, 4608, 4096]⟩
abbrev S1x1x1 : Shape := ⟨3, ![1, 1, 1]⟩
abbrev S4608x3072 : Shape := ⟨2, ![4608, 3072]⟩
abbrev S6x1x256x64 : Shape := ⟨4, ![6, 1, 256, 64]⟩
abbrev S6x3x256x64 : Shape := ⟨4, ![6, 3, 256, 64]⟩
abbrev S4608x1x64 : Shape := ⟨3, ![4608, 1, 64]⟩
abbrev S4608x16x128 : Shape := ⟨3, ![4608, 16, 128]⟩
abbrev S128 : Shape := ⟨1, ![128]⟩
abbrev S4608x16 : Shape := ⟨2, ![4608, 16]⟩
abbrev S4608x16x1 : Shape := ⟨3, ![4608, 16, 1]⟩
abbrev S1x1x128 : Shape := ⟨3, ![1, 1, 128]⟩
abbrev S4608x16x64 : Shape := ⟨3, ![4608, 16, 64]⟩
abbrev S4608x4x128 : Shape := ⟨3, ![4608, 4, 128]⟩
abbrev S4608x4 : Shape := ⟨2, ![4608, 4]⟩
abbrev S4608x4x1 : Shape := ⟨3, ![4608, 4, 1]⟩
abbrev S4608x4x64 : Shape := ⟨3, ![4608, 4, 64]⟩
abbrev S16x1 : Shape := ⟨2, ![16, 1]⟩
abbrev S1x16x1 : Shape := ⟨3, ![1, 16, 1]⟩
abbrev S4x1 : Shape := ⟨2, ![4, 1]⟩
abbrev S1x4x1 : Shape := ⟨3, ![1, 4, 1]⟩

abbrev nBuf : Space → Nat
  | .hbm => 20
  | .vmem => 17
  | .smem => 3
  | _ => 0

abbrev bufTy : (tb : Table) → Fin (tcTables nBuf tb) → BufTy
  | .hbm, ⟨0, _⟩ => ⟨S4608x4096, .bf16⟩
  | .hbm, ⟨1, _⟩ => ⟨S1x4096, .f32⟩
  | .hbm, ⟨2, _⟩ => ⟨S1x128, .f32⟩
  | .hbm, ⟨3, _⟩ => ⟨S1x128, .f32⟩
  | .hbm, ⟨4, _⟩ => ⟨S6x256x64, .f32⟩
  | .hbm, ⟨5, _⟩ => ⟨S6x256x64, .f32⟩
  | .hbm, ⟨6, _⟩ => ⟨S4096x3072, .fp8e4m3⟩
  | .hbm, ⟨7, _⟩ => ⟨S1, .f32⟩
  | .hbm, ⟨8, _⟩ => ⟨S1, .f32⟩
  | .hbm, ⟨9, _⟩ => ⟨S16, .f32⟩
  | .hbm, ⟨10, _⟩ => ⟨S4, .f32⟩
  | .hbm, ⟨11, _⟩ => ⟨S4, .f32⟩
  | .hbm, ⟨12, _⟩ => ⟨S4608x4096, .fp8e4m3⟩
  | .hbm, ⟨13, _⟩ => ⟨S4608x2048, .fp8e4m3⟩
  | .hbm, ⟨14, _⟩ => ⟨S4608x512, .fp8e4m3⟩
  | .hbm, ⟨15, _⟩ => ⟨S4608x512, .fp8e4m3⟩
  | .hbm, ⟨16, _⟩ => ⟨S1, .f32⟩
  | .hbm, ⟨17, _⟩ => ⟨S16, .f32⟩
  | .hbm, ⟨18, _⟩ => ⟨S4, .f32⟩
  | .hbm, ⟨19, _⟩ => ⟨S4, .f32⟩
  | .local _ .vmem, ⟨0, _⟩ => ⟨S4608x4096, .bf16⟩
  | .local _ .vmem, ⟨1, _⟩ => ⟨S1x4096, .f32⟩
  | .local _ .vmem, ⟨2, _⟩ => ⟨S1x128, .f32⟩
  | .local _ .vmem, ⟨3, _⟩ => ⟨S1x128, .f32⟩
  | .local _ .vmem, ⟨4, _⟩ => ⟨S6x256x64, .f32⟩
  | .local _ .vmem, ⟨5, _⟩ => ⟨S6x256x64, .f32⟩
  | .local _ .vmem, ⟨6, _⟩ => ⟨S4096x3072, .fp8e4m3⟩
  | .local _ .vmem, ⟨7, _⟩ => ⟨S16, .f32⟩
  | .local _ .vmem, ⟨8, _⟩ => ⟨S4, .f32⟩
  | .local _ .vmem, ⟨9, _⟩ => ⟨S4, .f32⟩
  | .local _ .vmem, ⟨10, _⟩ => ⟨S4608x4096, .fp8e4m3⟩
  | .local _ .vmem, ⟨11, _⟩ => ⟨S4608x2048, .fp8e4m3⟩
  | .local _ .vmem, ⟨12, _⟩ => ⟨S4608x512, .fp8e4m3⟩
  | .local _ .vmem, ⟨13, _⟩ => ⟨S4608x512, .fp8e4m3⟩
  | .local _ .vmem, ⟨14, _⟩ => ⟨S16, .f32⟩
  | .local _ .vmem, ⟨15, _⟩ => ⟨S4, .f32⟩
  | .local _ .vmem, ⟨16, _⟩ => ⟨S4, .f32⟩
  | .local _ .smem, ⟨0, _⟩ => ⟨S1, .f32⟩
  | .local _ .smem, ⟨1, _⟩ => ⟨S1, .f32⟩
  | .local _ .smem, ⟨2, _⟩ => ⟨S1, .f32⟩
  | _, _ => ⟨S4608x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg9_0 : Ref sig .tc := ⟨.vmem, 7, rfl⟩
abbrev cc0_stg10_0 : Ref sig .tc := ⟨.vmem, 8, rfl⟩
abbrev cc0_stg11_0 : Ref sig .tc := ⟨.vmem, 9, rfl⟩
abbrev cc0_stg12_0 : Ref sig .tc := ⟨.vmem, 10, rfl⟩
abbrev cc0_stg13_0 : Ref sig .tc := ⟨.vmem, 11, rfl⟩
abbrev cc0_stg14_0 : Ref sig .tc := ⟨.vmem, 12, rfl⟩
abbrev cc0_stg15_0 : Ref sig .tc := ⟨.vmem, 13, rfl⟩
abbrev cc0_stg17_0 : Ref sig .tc := ⟨.vmem, 14, rfl⟩
abbrev cc0_stg18_0 : Ref sig .tc := ⟨.vmem, 15, rfl⟩
abbrev cc0_stg19_0 : Ref sig .tc := ⟨.vmem, 16, rfl⟩
abbrev cc0_stg7_0 : Ref sig .tc := ⟨.smem, 0, rfl⟩
abbrev cc0_stg8_0 : Ref sig .tc := ⟨.smem, 1, rfl⟩
abbrev cc0_stg16_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := .none

abbrev stage0_0 : Fin 1 → Memref sig .tc .vmem S4608x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x3072 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .smem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4608x4096 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4608x2048 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4608x512 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4608x512 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .smem S1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S16 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S4 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
-- ==== GateUp.lean ====
abbrev S4608x4096 : Shape := ⟨2, ![4608, 4096]⟩
abbrev S4096x12288 : Shape := ⟨2, ![4096, 12288]⟩
abbrev S1 : Shape := ⟨1, ![1]⟩
abbrev S4608x6144 : Shape := ⟨2, ![4608, 6144]⟩
abbrev S2304x4096 : Shape := ⟨2, ![2304, 4096]⟩
abbrev S4096x512 : Shape := ⟨2, ![4096, 512]⟩
abbrev S2304x512 : Shape := ⟨2, ![2304, 512]⟩
abbrev S8x256 : Shape := ⟨2, ![8, 256]⟩
abbrev S256x4096 : Shape := ⟨2, ![256, 4096]⟩
abbrev S4096x256 : Shape := ⟨2, ![4096, 256]⟩
abbrev S256x256 : Shape := ⟨2, ![256, 256]⟩
abbrev S32x8x256 : Shape := ⟨3, ![32, 8, 256]⟩
abbrev S1x8x256 : Shape := ⟨3, ![1, 8, 256]⟩
abbrev S1x1x1 : Shape := ⟨3, ![1, 1, 1]⟩

abbrev nBuf : Space → Nat
  | .hbm => 7
  | .vmem => 9
  | .smem => 4
  | _ => 0

abbrev bufTy : (tb : Table) → Fin (tcTables nBuf tb) → BufTy
  | .hbm, ⟨0, _⟩ => ⟨S4608x4096, .fp8e4m3⟩
  | .hbm, ⟨1, _⟩ => ⟨S4096x12288, .fp8e4m3⟩
  | .hbm, ⟨2, _⟩ => ⟨S1, .f32⟩
  | .hbm, ⟨3, _⟩ => ⟨S1, .f32⟩
  | .hbm, ⟨4, _⟩ => ⟨S1, .f32⟩
  | .hbm, ⟨5, _⟩ => ⟨S4608x6144, .fp8e4m3⟩
  | .hbm, ⟨6, _⟩ => ⟨S1, .f32⟩
  | .local _ .vmem, ⟨0, _⟩ => ⟨S2304x4096, .fp8e4m3⟩
  | .local _ .vmem, ⟨1, _⟩ => ⟨S2304x4096, .fp8e4m3⟩
  | .local _ .vmem, ⟨2, _⟩ => ⟨S4096x512, .fp8e4m3⟩
  | .local _ .vmem, ⟨3, _⟩ => ⟨S4096x512, .fp8e4m3⟩
  | .local _ .vmem, ⟨4, _⟩ => ⟨S4096x512, .fp8e4m3⟩
  | .local _ .vmem, ⟨5, _⟩ => ⟨S4096x512, .fp8e4m3⟩
  | .local _ .vmem, ⟨6, _⟩ => ⟨S2304x512, .fp8e4m3⟩
  | .local _ .vmem, ⟨7, _⟩ => ⟨S2304x512, .fp8e4m3⟩
  | .local _ .vmem, ⟨8, _⟩ => ⟨S8x256, .f32⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S4608x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg7_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨2, ![2, 12], ![false, false]⟩

def k0_cond2 (i : grid0.Coords) : BitVec 1 :=
  let arg0 : BitVec 32 := BitVec.ofNat 32 (i 0).val
  let c1_i32 : BitVec 32 := 1#32
  let v639 : BitVec 1 := Scalar.cmpi .eq arg0 c1_i32
  let arg1 : BitVec 32 := BitVec.ofNat 32 (i 1).val
  let c11_i32 : BitVec 32 := 11#32
  let v640 : BitVec 1 := Scalar.cmpi .eq arg1 c11_i32
  let v641 : BitVec 1 := Scalar.andi v639 v640
  let v642 : BitVec 32 := Scalar.extui v641
  let c0_i32_391 : BitVec 32 := 0#32
  let v643 : BitVec 1 := Scalar.cmpi .ne v642 c0_i32_391
  v643

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi arg1 c12_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2304x4096 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4096x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2304x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== GateUpRefIdeal.lean ====
abbrev S4608x4096 : Shape := ⟨2, ![4608, 4096]⟩
abbrev S4096x12288 : Shape := ⟨2, ![4096, 12288]⟩
abbrev S1 : Shape := ⟨1, ![1]⟩
abbrev S4608x6144 : Shape := ⟨2, ![4608, 6144]⟩
abbrev S4608x12288 : Shape := ⟨2, ![4608, 12288]⟩
abbrev S1x4608x6144 : Shape := ⟨3, ![1, 4608, 6144]⟩
abbrev S1x1x1 : Shape := ⟨3, ![1, 1, 1]⟩

abbrev nBuf : Space → Nat
  | .hbm => 7
  | .vmem => 3
  | .smem => 4
  | _ => 0

abbrev bufTy : (tb : Table) → Fin (tcTables nBuf tb) → BufTy
  | .hbm, ⟨0, _⟩ => ⟨S4608x4096, .fp8e4m3⟩
  | .hbm, ⟨1, _⟩ => ⟨S4096x12288, .fp8e4m3⟩
  | .hbm, ⟨2, _⟩ => ⟨S1, .f32⟩
  | .hbm, ⟨3, _⟩ => ⟨S1, .f32⟩
  | .hbm, ⟨4, _⟩ => ⟨S1, .f32⟩
  | .hbm, ⟨5, _⟩ => ⟨S4608x6144, .fp8e4m3⟩
  | .hbm, ⟨6, _⟩ => ⟨S1, .f32⟩
  | .local _ .vmem, ⟨0, _⟩ => ⟨S4608x4096, .fp8e4m3⟩
  | .local _ .vmem, ⟨1, _⟩ => ⟨S4096x12288, .fp8e4m3⟩
  | .local _ .vmem, ⟨2, _⟩ => ⟨S4608x6144, .fp8e4m3⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S4608x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg5_0 : Ref sig .tc := ⟨.vmem, 2, rfl⟩
abbrev cc0_stg2_0 : Ref sig .tc := ⟨.smem, 0, rfl⟩
abbrev cc0_stg3_0 : Ref sig .tc := ⟨.smem, 1, rfl⟩
abbrev cc0_stg4_0 : Ref sig .tc := ⟨.smem, 2, rfl⟩
abbrev cc0_stg6_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4608x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x12288 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4608x6144 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Down.lean ====
abbrev S4608x6144 : Shape := ⟨2, ![4608, 6144]⟩
abbrev S4608x4096 : Shape := ⟨2, ![4608, 4096]⟩
abbrev S6144x4096 : Shape := ⟨2, ![6144, 4096]⟩
abbrev S1 : Shape := ⟨1, ![1]⟩
abbrev S256x6144 : Shape := ⟨2, ![256, 6144]⟩
abbrev S256x4096 : Shape := ⟨2, ![256, 4096]⟩
abbrev S256x256 : Shape := ⟨2, ![256, 256]⟩
abbrev S6144x256 : Shape := ⟨2, ![6144, 256]⟩

abbrev nBuf : Space → Nat
  | .hbm => 6
  | .vmem => 7
  | .smem => 2
  | _ => 0

abbrev bufTy : (tb : Table) → Fin (tcTables nBuf tb) → BufTy
  | .hbm, ⟨0, _⟩ => ⟨S4608x6144, .fp8e4m3⟩
  | .hbm, ⟨1, _⟩ => ⟨S4608x4096, .f32⟩
  | .hbm, ⟨2, _⟩ => ⟨S6144x4096, .fp8e4m3⟩
  | .hbm, ⟨3, _⟩ => ⟨S1, .f32⟩
  | .hbm, ⟨4, _⟩ => ⟨S1, .f32⟩
  | .hbm, ⟨5, _⟩ => ⟨S4608x4096, .bf16⟩
  | .local _ .vmem, ⟨0, _⟩ => ⟨S256x6144, .fp8e4m3⟩
  | .local _ .vmem, ⟨1, _⟩ => ⟨S256x6144, .fp8e4m3⟩
  | .local _ .vmem, ⟨2, _⟩ => ⟨S256x4096, .f32⟩
  | .local _ .vmem, ⟨3, _⟩ => ⟨S256x4096, .f32⟩
  | .local _ .vmem, ⟨4, _⟩ => ⟨S6144x4096, .fp8e4m3⟩
  | .local _ .vmem, ⟨5, _⟩ => ⟨S256x4096, .bf16⟩
  | .local _ .vmem, ⟨6, _⟩ => ⟨S256x4096, .bf16⟩
  | .local _ .smem, ⟨0, _⟩ => ⟨S1, .f32⟩
  | .local _ .smem, ⟨1, _⟩ => ⟨S1, .f32⟩
  | _, _ => ⟨S4608x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![18], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x6144 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S6144x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownRefIdeal.lean ====
abbrev S4608x6144 : Shape := ⟨2, ![4608, 6144]⟩
abbrev S4608x4096 : Shape := ⟨2, ![4608, 4096]⟩
abbrev S6144x4096 : Shape := ⟨2, ![6144, 4096]⟩
abbrev S1 : Shape := ⟨1, ![1]⟩

abbrev nBuf : Space → Nat
  | .hbm => 6
  | .vmem => 4
  | .smem => 2
  | _ => 0

abbrev bufTy : (tb : Table) → Fin (tcTables nBuf tb) → BufTy
  | .hbm, ⟨0, _⟩ => ⟨S4608x6144, .fp8e4m3⟩
  | .hbm, ⟨1, _⟩ => ⟨S4608x4096, .f32⟩
  | .hbm, ⟨2, _⟩ => ⟨S6144x4096, .fp8e4m3⟩
  | .hbm, ⟨3, _⟩ => ⟨S1, .f32⟩
  | .hbm, ⟨4, _⟩ => ⟨S1, .f32⟩
  | .hbm, ⟨5, _⟩ => ⟨S4608x4096, .bf16⟩
  | .local _ .vmem, ⟨0, _⟩ => ⟨S4608x6144, .fp8e4m3⟩
  | .local _ .vmem, ⟨1, _⟩ => ⟨S4608x4096, .f32⟩
  | .local _ .vmem, ⟨2, _⟩ => ⟨S6144x4096, .fp8e4m3⟩
  | .local _ .vmem, ⟨3, _⟩ => ⟨S4608x4096, .bf16⟩
  | .local _ .smem, ⟨0, _⟩ => ⟨S1, .f32⟩
  | .local _ .smem, ⟨1, _⟩ => ⟨S1, .f32⟩
  | _, _ => ⟨S4608x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg5_0 : Ref sig .tc := ⟨.vmem, 3, rfl⟩
abbrev cc0_stg3_0 : Ref sig .tc := ⟨.smem, 0, rfl⟩
abbrev cc0_stg4_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4608x6144 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4608x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4608x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.QkvNorm.lean ====
module

public import proofs.«01_k».proof.Proof.Gen.QkvIdeal.Skeleton
public import Idealize.ShloMosaic.Lib.Pipeline.ValueKit
public import Idealize.ShloMosaic.Lib.Pipeline.ReadBack

@[expose] public section

set_option maxRecDepth 16384

noncomputable section

namespace Cert.QkvIdeal.Hand

open Cert.QkvIdeal Cert.QkvIdeal.Gen Idealize.ShloMosaic Idealize.ShloMosaic.TcCoe Idealize.SL.Sem

/-- Squares of lane tiles added up one after the other. -/
def acc {F : FTy → Type} [FloatOps F] (x : ℕ → FVec F S32x128 .bf16) : ℕ → FVec F S32x128 .f32
  | 0 => mulf (extf .f32 (x 0) bitsLt_bf16_f32) (extf .f32 (x 0) bitsLt_bf16_f32)
  | n + 1 => addf (acc x n) (mulf (extf .f32 (x (n + 1)) bitsLt_bf16_f32) (extf .f32 (x (n + 1)) bitsLt_bf16_f32))

/-- The accumulator holds the sum of the squares so far. -/
theorem acc_apply (x : ℕ → FVec Ideal S32x128 .bf16) (n : ℕ) (y : S32x128.Idx) :
    acc (F := Ideal) x n y = ∑ j ∈ Finset.range (n + 1), x j y * x j y := by
  induction n with
  | zero => rw [Finset.sum_range_one]; pointwise [acc]
  | succ n ih => rw [Finset.sum_range_succ, ← ih]; pointwise [acc]

/-- Four accumulators stacked, and turned so that rows run along the lanes. -/
def stack {F : FTy → Type} [FloatOps F] (a b c d : FVec F S32x128 .f32) : FVec F S128x128 .f32 :=
  transpose S128x128 [1, 0] (concatenate S128x128 0 [⟨S32x128, a⟩, ⟨S32x128, b⟩, ⟨S32x128, c⟩, ⟨S32x128, d⟩]
    concatenates_S32x128_S32x128_S32x128_S32x128_S128x128_d0) transposes_S128x128_p1_0_S128x128

/-- The turned stack has row `r` of the four tiles in column `r`. -/
theorem stack_apply (A : ℕ → FVec Ideal S32x128 .f32) (k r : Fin 128) :
    stack (F := Ideal) (A 0) (A 1) (A 2) (A 3) (ix2 k r) = A (r.val / 32) (ix2 ⟨r.val % 32, Nat.mod_lt _ (by omega)⟩ k) := by
  unfold stack
  pointwise []
  have hr : r.val < 128 := r.isLt
  have e : ∀ (n : ℕ) (h : r.val - n < 32) (hn : r.val / 32 * 32 = n) (hr : n ≤ r.val),
      A (n / 32) (ix2 ⟨r.val - n, h⟩ k) = A (r.val / 32) (ix2 ⟨r.val % 32, Nat.mod_lt _ (by omega)⟩ k) := by
    rintro n h rfl hn
    have e1 : r.val / 32 * 32 / 32 = r.val / 32 := by omega
    have e2 : r.val - r.val / 32 * 32 = r.val % 32 := by omega
    simp only [e1, e2]
  by_cases h0 : r.val < 32
  · rw [dif_pos h0]; exact e 0 h0 (by omega) (by omega)
  · rw [dif_neg h0]
    by_cases h1 : r.val - 32 < 32
    · rw [dif_pos h1]; exact e 32 h1 (by omega) (by omega)
    · rw [dif_neg h1]
      by_cases h2 : r.val - 32 - 32 < 32
      · rw [dif_pos h2]; simp only [Nat.sub_sub]; exact e 64 (by omega) (by omega) (by omega)
      · rw [dif_neg h2]; simp only [Nat.sub_sub]; exact e 96 (by omega) (by omega) (by omega)

/-- The sixteen groups of eight rows of a turned stack added up. -/
def groups {F : FTy → Type} [FloatOps F] (P : FVec F S128x128 .f32) : FVec F S8x128 .f32 :=
  addf (addf (addf (addf (addf (addf (addf (addf (addf (addf (addf (addf (addf (addf (addf (extractStridedSlice S8x128 ![0, 0] P slices_S128x128_o0_0_S8x128)
    (extractStridedSlice S8x128 ![8, 0] P slices_S128x128_o8_0_S8x128))
    (extractStridedSlice S8x128 ![16, 0] P slices_S128x128_o16_0_S8x128))
    (extractStridedSlice S8x128 ![24, 0] P slices_S128x128_o24_0_S8x128))
    (extractStridedSlice S8x128 ![32, 0] P slices_S128x128_o32_0_S8x128))
    (extractStridedSlice S8x128 ![40, 0] P slices_S128x128_o40_0_S8x128))
    (extractStridedSlice S8x128 ![48, 0] P slices_S128x128_o48_0_S8x128))
    (extractStridedSlice S8x128 ![56, 0] P slices_S128x128_o56_0_S8x128))
    (extractStridedSlice S8x128 ![64, 0] P slices_S128x128_o64_0_S8x128))
    (extractStridedSlice S8x128 ![72, 0] P slices_S128x128_o72_0_S8x128))
    (extractStridedSlice S8x128 ![80, 0] P slices_S128x128_o80_0_S8x128))
    (extractStridedSlice S8x128 ![88, 0] P slices_S128x128_o88_0_S8x128))
    (extractStridedSlice S8x128 ![96, 0] P slices_S128x128_o96_0_S8x128))
    (extractStridedSlice S8x128 ![104, 0] P slices_S128x128_o104_0_S8x128))
    (extractStridedSlice S8x128 ![112, 0] P slices_S128x128_o112_0_S8x128))
    (extractStridedSlice S8x128 ![120, 0] P slices_S128x128_o120_0_S8x128)

/-- Half the rows added to the other half, three times, by turning: all rows then hold the sum of the eight. -/
def turns {F : FTy → Type} [FloatOps F] (t : FVec F S8x128 .f32) : FVec F S8x128 .f32 :=
  have a : FVec F S8x128 .f32 := addf t (dynamicRotate 0 4#32 none t rotates_S8x128_d0)
  have b : FVec F S8x128 .f32 := addf a (dynamicRotate 0 2#32 none a rotates_S8x128_d0)
  addf b (dynamicRotate 0 1#32 none b rotates_S8x128_d0)

/-- After turns by 4, 2 and 1, each of eight rows holds the sum of all eight. -/
theorem turns_apply (t : FVec Ideal S8x128 .f32) (u : Fin 8) (r : Fin 128) (g : ℕ → EReal)
    (hg : ∀ (n : ℕ) (h : n < 8), t (ix2 ⟨n, h⟩ r) = g n) :
    turns (F := Ideal) t (ix2 u r) = ∑ v ∈ Finset.range 8, g v := by
  pointwise [turns]
  simp only [hg, show t (ix2 u r) = g u.val from hg u.val u.isLt, Finset.sum_range_succ, Finset.sum_range_zero, zero_add]
  obtain ⟨n, hn⟩ := u
  interval_cases n <;> simp only [Nat.reduceAdd, Nat.reduceSub, Nat.reduceMod] <;> ac_rfl

/-- The sum of the groups is the sum over a column's rows of the same remainder by 8. -/
theorem groups_apply (P : FVec Ideal S128x128 .f32) (u : Fin 8) (r : Fin 128) (f : ℕ → EReal)
    (hf : ∀ (n : ℕ) (h : n < 128), P (ix2 ⟨n, h⟩ r) = f n) :
    groups (F := Ideal) P (ix2 u r) = ∑ k ∈ Finset.range 16, f (k * 8 + u.val) := by
  pointwise [groups]
  simp only [hf, Finset.sum_range_succ, Finset.sum_range_zero, zero_add, Nat.reduceMul, Nat.zero_mul, Nat.one_mul]

/-- A sum over `m * b` numbers, block by block. -/
theorem sum_blocks (f : ℕ → EReal) (m b : ℕ) :
    ∑ n ∈ Finset.range (m * b), f n = ∑ k ∈ Finset.range m, ∑ v ∈ Finset.range b, f (k * b + v) := by
  induction m with
  | zero => simp
  | succ m ih => rw [Finset.sum_range_succ, ← ih, Nat.succ_mul, Finset.sum_range_add]

/-- The root of the mean square, once per row and spread over the lanes. -/
def root {F : FTy → Type} [FloatOps F] (t : FVec F S8x128 .f32) : FVec F S8x128 .f32 :=
  sqrt (addf (mulf t (broadcast S8x128 (Scalar.ofBits .f32 0x39800000#32))) (broadcast S8x128 (Scalar.ofBits .f32 0x358637BD#32)))

/-- Eight rows copied sixteen times and turned back. -/
def spread {F : FTy → Type} [FloatOps F] (t : FVec F S8x128 .f32) : FVec F S128x128 .f32 :=
  transpose S128x128 [1, 0] (concatenate S128x128 0 (List.replicate 16 ⟨S8x128, t⟩)
    concatenates_S8x128_S8x128_S8x128_S8x128_S8x128_S8x128_S8x128_S8x128_S8x128_S8x128_S8x128_S8x128_S8x128_S8x128_S8x128_S8x128_S128x128_d0) transposes_S128x128_p1_0_S128x128

/-- Turning swaps the two places. -/
theorem turned_apply (w : FVec Ideal S128x128 .f32) (r l : Fin 128) :
    transpose S128x128 [1, 0] w transposes_S128x128_p1_0_S128x128 (ix2 r l) = w (ix2 l r) := by
  pointwise []

/-- Where the eight rows agree, the spread has their value in the whole row. -/
theorem spread_apply (t : FVec Ideal S8x128 .f32) (v : EReal) (r l : Fin 128) (h : ∀ u : Fin 8, t (ix2 u r) = v) :
    spread (F := Ideal) t (ix2 r l) = v := by
  refine (turned_apply _ r l).trans (Eq.trans ?_ (h ⟨l.val % 8, Nat.mod_lt _ (by omega)⟩))
  exact concatenate_replicate_apply (t := S128x128) (s₁ := S8x128) 0 16 t _ rfl (ix2 l r) (ix2 ⟨l.val % 8, Nat.mod_lt _ (by omega)⟩ r) rfl
    (by intro b hb; fin_cases b <;> first | rfl | exact absurd rfl hb)

/-- The roots of a block of rows are one spread of the groups' turned sums. -/
theorem spread_eq {F : FTy → Type} [FloatOps F] (P : FVec F S128x128 .f32) :
  k0_pay52 P (extractStridedSlice S8x128 ![0, 0] P slices_S128x128_o0_0_S8x128) (extractStridedSlice S8x128 ![8, 0] P slices_S128x128_o8_0_S8x128)
   = spread (root (turns (groups P))) := rfl

/-- The kernel's root of a row's mean square, from what it adds up: `f n` at lane `n`. -/
theorem rms_apply (P : FVec Ideal S128x128 .f32) (r l : Fin 128) (f : ℕ → EReal)
    (hf : ∀ (n : ℕ) (h : n < 128), P (ix2 ⟨n, h⟩ r) = f n) :
    spread (F := Ideal) (root (turns (groups P))) (ix2 r l)
      = Ideal.sqrt ((∑ n ∈ Finset.range 128, f n) * Ideal.ofBits .f32 0x39800000#32 + Ideal.ofBits .f32 0x358637BD#32) := by
  refine spread_apply _ _ r l fun u => ?_
  have e : root (F := Ideal) (turns (groups P)) (ix2 u r) = Ideal.sqrt (turns (F := Ideal) (groups P) (ix2 u r)
      * Ideal.ofBits .f32 0x39800000#32 + Ideal.ofBits .f32 0x358637BD#32) := by
    generalize turns (F := Ideal) (groups P) = t
    pointwise [root]
  rw [e, turns_apply _ u r (fun v => ∑ k ∈ Finset.range 16, f (k * 8 + v)) fun n h => groups_apply P ⟨n, h⟩ r f hf,
    Finset.sum_comm, ← sum_blocks f 16 8]

end Cert.QkvIdeal.Hand

end
-- ==== Proof.QkvHead.lean ====
module

public import proofs.«01_k».proof.Proof.QkvNorm
public import proofs.«01_k».proof.Proof.Gen.QkvRefIdeal.Skeleton

@[expose] public section

set_option maxRecDepth 16384

noncomputable section

namespace Cert.QkvIdeal.Hand

open Cert.QkvIdeal Cert.QkvIdeal.Gen Idealize.ShloMosaic Idealize.ShloMosaic.TcCoe Idealize.SL.Sem

/-- Multiplying by a number is dividing by its inverse. -/
theorem quarter (a b : ℝ) (hb : b ≠ 0) (h : a * b = 1) (x : EReal) : x * (a : EReal) = Ideal.div x (b : EReal) := by
  have h0 : (b : EReal) ≠ 0 := by exact_mod_cast hb
  rw [Ideal.div, if_neg h0, ← EReal.coe_inv, eq_inv_of_mul_eq_one_left h]

/-- Multiplying by the float 1/4096 divides by 4096. -/
theorem div_4096 (x : EReal) : x * Ideal.ofBits .f32 0x39800000#32 = Ideal.div x (Ideal.ofBits .f32 0x45800000#32) := by
  rw [show Ideal.ofBits .f32 0x39800000#32 = ((8388608 * ((2 : ℝ) ^ 35)⁻¹ : ℝ) : EReal) by simp [Ideal.ofBits, Ideal.ieee],
    show Ideal.ofBits .f32 0x45800000#32 = ((8388608 * ((2 : ℝ) ^ 11)⁻¹ : ℝ) : EReal) by simp [Ideal.ofBits, Ideal.ieee]]
  exact quarter _ _ (by norm_num) (by norm_num) x

/-- Multiplying by the float 1/128 divides by 128. -/
theorem div_128 (x : EReal) : x * Ideal.ofBits .f32 0x3C000000#32 = Ideal.div x (Ideal.ofBits .f32 0x43000000#32) := by
  rw [show Ideal.ofBits .f32 0x3C000000#32 = ((8388608 * ((2 : ℝ) ^ 30)⁻¹ : ℝ) : EReal) by simp [Ideal.ofBits, Ideal.ieee],
    show Ideal.ofBits .f32 0x43000000#32 = ((8388608 * ((2 : ℝ) ^ 16)⁻¹ : ℝ) : EReal) by simp [Ideal.ofBits, Ideal.ieee]]
  exact quarter _ _ (by norm_num) (by norm_num) x

/-! ## The mathematics, over functions of natural numbers -/

/-- The root of the mean of `N` squares plus epsilon; `n` is the float for `N`. -/
def rms (N : ℕ) (n : BitVec 32) (x : ℕ → EReal) : EReal :=
  Ideal.sqrt (Ideal.div (∑ j ∈ Finset.range N, x j * x j) (Ideal.ofBits .f32 n) + Ideal.ofBits .f32 0x358637BD#32)

/-- One entry of a normed row of 4096. -/
def normV (x g : ℕ → EReal) (k : ℕ) : EReal := Ideal.div (x k) (rms 4096 0x45800000#32 x) * g k

/-- One entry of a normed and rotated head of 128. -/
def ropeV (x g c s : ℕ → EReal) (d : ℕ) : EReal :=
  if d < 64 then Ideal.div (x d) (rms 128 0x43000000#32 x) * g d * c d
      - Ideal.div (x (64 + d)) (rms 128 0x43000000#32 x) * g (64 + d) * s d
    else Ideal.div (x d) (rms 128 0x43000000#32 x) * g d * c (d - 64)
      + Ideal.div (x (d - 64)) (rms 128 0x43000000#32 x) * g (d - 64) * s (d - 64)

/-- One code: scaled, clipped. -/
def clip (s v : EReal) : EReal := min (Ideal.ofBits .f32 0x43E00000#32) (max (Ideal.ofBits .f32 0xC3E00000#32) (Ideal.div v s))

/-! ## The kernel -/

/-- One tile of the norm: rows `o` on of the roots. -/
def normed {F : FTy → Type} [FloatOps F] (T : FVec F S128x128 .f32) (o : ℕ) (h : S128x128.Slices ![o, 0] S32x128) (x : FVec F S32x128 .bf16)
    (g : FVec F S1x128 .f32) : FVec F S32x128 .f32 :=
  mulf (divf (extf .f32 x bitsLt_bf16_f32) (extractStridedSlice S32x128 ![o, 0] T h)) (broadcastTo S32x128 g broadcasts_S1x128_S32x128)

/-- A tile of normed entries: the entry over the root of its row's mean square, times the gain. -/
theorem normed_apply (T : FVec Ideal S128x128 .f32) (o : ℕ) (h : S128x128.Slices ![o, 0] S32x128) (x : FVec Ideal S32x128 .bf16)
    (g : FVec Ideal S1x128 .f32) (u : Fin 32) (l : Fin 128) (ho : o + u < 128) :
    normed (F := Ideal) T o h x g (ix2 u l) = Ideal.div (x (ix2 u l)) (T (ix2 ⟨o + u, ho⟩ l)) * g (ix2 0 l) := by
  pointwise [normed]

/-- A tile's codes: divided by the scale and clipped. -/
theorem code_apply (s : EReal) (v : FVec Ideal S32x128 .f32) (y : S32x128.Idx) : k0_pay56 (F := Ideal) s v y = clip s (v y) := by
  pointwise [k0_pay56, clip]

/-- Half of a product of two heads, scaled. -/
def half {F : FTy → Type} [FloatOps F] (P : FVec F S256x256 .f32) (o : ℕ) (h : S256x256.Slices ![0, o] S256x128) (k : F .f32) : FVec F S256x128 .f32 :=
  mulf (extractStridedSlice S256x128 ![0, o] P h) (broadcast S256x128 k)

/-- A head is half of a product's columns, times the scales. -/
theorem half_apply (P : FVec Ideal S256x256 .f32) (o : ℕ) (h : S256x256.Slices ![0, o] S256x128) (k : EReal) (y : Fin 256) (d : Fin 128)
    (ho : o + d < 256) : half (F := Ideal) P o h k (ix2 y d) = P (ix2 y ⟨o + d, ho⟩) * k := by
  pointwise [half]

/-- A product of 256 rows with 256 columns of the weights. -/
theorem prod_apply (x : FVec Ideal S256x4096 .fp8e4m3) (w : FVec Ideal S4096x256 .fp8e4m3) (y e : Fin 256) :
    k0_pay784 (F := Ideal) x w (ix2 y e) = ∑ k : Fin 4096, x (ix2 y k) * w (ix2 k e) := by
  pointwise [k0_pay784, k0_pay783]

/-- A head normed and turned by its row's angles. -/
theorem rope_apply (t : FVec Ideal S256x128 .f32) (g : FVec Ideal S1x128 .f32) (c s : FVec Ideal S1x256x64 .f32) (y : Fin 256) (d : Fin 128)
    (x γ κ σ : ℕ → EReal) (hx : ∀ n (h : n < 128), t (ix2 y ⟨n, h⟩) = x n) (hg : ∀ n (h : n < 128), g (ix2 0 ⟨n, h⟩) = γ n)
    (hc : ∀ n (h : n < 64), c (ix3 0 y ⟨n, h⟩) = κ n) (hs : ∀ n (h : n < 64), s (ix3 0 y ⟨n, h⟩) = σ n) :
    k0_pay786 (F := Ideal) (k0_pay780 c c) (k0_pay781 s s) t g (ix2 y d) = ropeV x γ κ σ d := by
  obtain ⟨d, hd⟩ := d
  have e : (∑ a : Fin 128, t (ix2 y a) * t (ix2 y a)) = ∑ j ∈ Finset.range 128, x j * x j := by
    rw [Finset.sum_range]; exact Finset.sum_congr rfl fun a _ => by rw [hx a a.isLt]
  pointwise [k0_pay786, k0_pay780, k0_pay781]
  rw [e, div_128]
  simp only [hx, hg]
  unfold ropeV
  split
  · rename_i h
    rw [hc, hs, show (d + 128 - 64) % 128 = 64 + d by omega]
    unfold rms
    rw [zero_sub, mul_neg, sub_eq_add_neg]
  · rename_i h
    rw [hc, hs, show (d + 128 - 64) % 128 = d - 64 by omega]
    rfl

/-- A head's codes: divided by its scale and clipped. -/
theorem hcode_apply (s : EReal) (v : FVec Ideal S256x128 .f32) (y : S256x128.Idx) : k0_pay876 (F := Ideal) v s y = clip s (v y) := by
  pointwise [k0_pay876, clip]

/-! ## The reference -/

/-- The reference's normed entry. -/
theorem ref_norm (X : FVec Ideal QkvRefIdeal.S4608x4096 .bf16) (G : FVec Ideal QkvRefIdeal.S1x4096 .f32) (r : Fin 4608) (k : Fin 4096)
    (x g : ℕ → EReal) (hx : ∀ n (h : n < 4096), X (ix2 r ⟨n, h⟩) = x n) (hg : ∀ n (h : n < 4096), G (ix2 0 ⟨n, h⟩) = g n) :
    QkvRefIdeal.Gen.k0_pay6 (F := Ideal) X G (ix2 r k) = normV x g k := by
  obtain ⟨k, hk⟩ := k
  have e : (∑ a : Fin 4096, X (ix2 r a) * X (ix2 r a)) = ∑ j ∈ Finset.range 4096, x j * x j := by
    rw [Finset.sum_range]; exact Finset.sum_congr rfl fun a _ => by rw [hx a a.isLt]
  pointwise [QkvRefIdeal.Gen.k0_pay6]
  rw [e, hx, hg]; rfl

/-- The reference's codes of normed rows. -/
theorem ref_code (X : FVec Ideal QkvRefIdeal.S4608x4096 .bf16) (G : FVec Ideal QkvRefIdeal.S1x4096 .f32) (s : EReal) (y : QkvRefIdeal.S4608x4096.Idx) :
    QkvRefIdeal.Gen.k0_pay7 (F := Ideal) X G s y = clip s (QkvRefIdeal.Gen.k0_pay6 (F := Ideal) X G y) := by
  unfold QkvRefIdeal.Gen.k0_pay7
  generalize QkvRefIdeal.Gen.k0_pay6 (F := Ideal) X G = v
  pointwise [clip]

/-- The reference's projections. -/
theorem ref_prod (X : FVec Ideal QkvRefIdeal.S4608x4096 .bf16) (G : FVec Ideal QkvRefIdeal.S1x4096 .f32) (s : EReal)
    (w : FVec Ideal QkvRefIdeal.S4096x3072 .fp8e4m3) (a b : EReal) (r : Fin 4608) (j : Fin 3072) :
    QkvRefIdeal.Gen.k0_pay9 (F := Ideal) X G s w a b (ix2 r j)
      = (∑ k : Fin 4096, QkvRefIdeal.Gen.k0_pay7 (F := Ideal) X G s (ix2 r k) * w (ix2 k j)) * (a * b) := by
  unfold QkvRefIdeal.Gen.k0_pay9
  generalize QkvRefIdeal.Gen.k0_pay7 (F := Ideal) X G s = v
  pointwise []

/-- The reference's queries: normed and turned. -/
theorem ref_q (Q : FVec Ideal QkvRefIdeal.S4608x3072 .f32) (c s : FVec Ideal S6x256x64 .f32) (g : FVec Ideal S1x128 .f32) (r : Fin 4608) (h : Fin 16)
    (d : Fin 128) (x γ κ σ : ℕ → EReal) (hx : ∀ (n : ℕ) (h0 : h * 128 + n < 3072), n < 128 → Q (ix2 r ⟨h * 128 + n, h0⟩) = x n)
    (hg : ∀ n (h : n < 128), g (ix2 0 ⟨n, h⟩) = γ n)
    (hc : ∀ n (h : n < 64), c (ix3 ⟨r / 768, by omega⟩ ⟨r % 256, by omega⟩ ⟨n, h⟩) = κ n)
    (hs : ∀ n (h : n < 64), s (ix3 ⟨r / 768, by omega⟩ ⟨r % 256, by omega⟩ ⟨n, h⟩) = σ n) :
    QkvRefIdeal.Gen.k0_pay12 (F := Ideal) Q c s g (ix3 r h d) = ropeV x γ κ σ d := by
  obtain ⟨d, hd⟩ := d
  have e : (∑ a : Fin 128, Q (ix2 r ⟨h * 128 + a, by omega⟩) * Q (ix2 r ⟨h * 128 + a, by omega⟩)) = ∑ j ∈ Finset.range 128, x j * x j := by
    rw [Finset.sum_range]; exact Finset.sum_congr rfl fun a _ => by rw [hx a _ a.isLt]
  pointwise [QkvRefIdeal.Gen.k0_pay12, QkvRefIdeal.Gen.k0_pay10, QkvRefIdeal.Gen.k0_pay11]
  rw [e]
  unfold ropeV
  split
  · rename_i h
    rw [hc, hs, hx d _ hd, hx (64 + d) _ (by omega), hg, hg]; rfl
  · rename_i h
    rw [hc, hs]
    simp only [show 64 + (d - 64) = d by omega]
    rw [hx d _ hd, hx (d - 64) _ (by omega), hg, hg]; rfl

/-- The reference's keys: normed and turned. -/
theorem ref_k (Q : FVec Ideal QkvRefIdeal.S4608x3072 .f32) (c s : FVec Ideal S6x256x64 .f32) (g : FVec Ideal S1x128 .f32) (r : Fin 4608) (h : Fin 4)
    (d : Fin 128) (x γ κ σ : ℕ → EReal) (hx : ∀ (n : ℕ) (h0 : 2048 + (h * 128 + n) < 3072), n < 128 → Q (ix2 r ⟨2048 + (h * 128 + n), h0⟩) = x n)
    (hg : ∀ n (h : n < 128), g (ix2 0 ⟨n, h⟩) = γ n)
    (hc : ∀ n (h : n < 64), c (ix3 ⟨r / 768, by omega⟩ ⟨r % 256, by omega⟩ ⟨n, h⟩) = κ n)
    (hs : ∀ n (h : n < 64), s (ix3 ⟨r / 768, by omega⟩ ⟨r % 256, by omega⟩ ⟨n, h⟩) = σ n) :
    QkvRefIdeal.Gen.k0_pay16 (F := Ideal) (QkvRefIdeal.Gen.k0_pay10 c) (QkvRefIdeal.Gen.k0_pay11 s) (QkvRefIdeal.Gen.k0_pay13 Q)
      (QkvRefIdeal.Gen.k0_pay14 g) (QkvRefIdeal.Gen.k0_pay15 Q) (Ideal.ofBits .f32 0x43000000#32) (ix3 r h d) = ropeV x γ κ σ d := by
  obtain ⟨d, hd⟩ := d
  have e : (∑ a : Fin 128, Q (ix2 r ⟨2048 + (h * 128 + a), by omega⟩) * Q (ix2 r ⟨2048 + (h * 128 + a), by omega⟩)) = ∑ j ∈ Finset.range 128, x j * x j := by
    rw [Finset.sum_range]; exact Finset.sum_congr rfl fun a _ => by rw [hx a _ a.isLt]
  pointwise [QkvRefIdeal.Gen.k0_pay16, QkvRefIdeal.Gen.k0_pay10, QkvRefIdeal.Gen.k0_pay11, QkvRefIdeal.Gen.k0_pay13, QkvRefIdeal.Gen.k0_pay14,
    QkvRefIdeal.Gen.k0_pay15]
  rw [e]
  unfold ropeV
  split
  · rename_i h
    rw [hc, hs, hx d _ hd, hx (64 + d) _ (by omega), hg, hg]; rfl
  · rename_i h
    rw [hc, hs]
    simp only [show 64 + (d - 64) = d by omega]
    rw [hx d _ hd, hx (d - 64) _ (by omega), hg, hg]; rfl

/-- The reference's values: the projections themselves. -/
theorem ref_v (Q : FVec Ideal QkvRefIdeal.S4608x3072 .f32) (r : Fin 4608) (h : Fin 4) (d : Fin 128) :
    QkvRefIdeal.Gen.k0_pay17 (F := Ideal) Q (ix3 r h d) = Q (ix2 r ⟨2560 + (h * 128 + d), by omega⟩) := by
  pointwise [QkvRefIdeal.Gen.k0_pay17]

/-- The stored q codes of the reference. -/
theorem ref_qcode (v : FVec Ideal QkvRefIdeal.S4608x16x128 .f32) (s : FVec Ideal S16 .f32) (r : Fin 4608) (j : Fin 2048) :
    QkvRefIdeal.Gen.k0_pay3 (F := Ideal) (QkvRefIdeal.Gen.k0_pay18 v s) (ix2 r j)
      = clip (s (ix1 ⟨j / 128, by omega⟩)) (v (ix3 r ⟨j / 128, by omega⟩ ⟨j % 128, by omega⟩)) := by
  pointwise [QkvRefIdeal.Gen.k0_pay3, QkvRefIdeal.Gen.k0_pay18, clip]

/-- The stored codes of keys or values of the reference. -/
theorem ref_vcode (v : FVec Ideal QkvRefIdeal.S4608x4x128 .f32) (s : FVec Ideal S4 .f32) (r : Fin 4608) (j : Fin 512) :
    QkvRefIdeal.Gen.k0_pay5 (F := Ideal) v s (ix2 r j)
      = clip (s (ix1 ⟨j / 128, by omega⟩)) (v (ix3 r ⟨j / 128, by omega⟩ ⟨j % 128, by omega⟩)) := by
  pointwise [QkvRefIdeal.Gen.k0_pay5, clip]

end Cert.QkvIdeal.Hand

end
-- ==== Proof.QkvTiles.lean ====
module

public import proofs.«01_k».proof.Proof.QkvHead
public import proofs.«01_k».proof.Proof.Gen.QkvIdeal.Value
public import Idealize.ShloMosaic.Lib.Pipeline.ReadBack

@[expose] public section

set_option maxRecDepth 16384

noncomputable section

namespace Cert.QkvIdeal.Hand

open Cert.QkvIdeal Cert.QkvIdeal.Gen Idealize.ShloMosaic Idealize.ShloMosaic.TcCoe Idealize.SL.Sem

/-! ## What one grid point computes, as families over a count -/

/-- Pieces `0` to `n - 1` of a family, the last one first. -/
def build {α : Type} (P : ℕ → α) : ℕ → List α
  | 0 => []
  | n + 1 => P n :: build P n

variable {F : FTy → Type} [FloatOps F]
variable (arg1 : Memref sig .tc .smem S1 .f32) (harg1 : arg1.IsWhole) (arg2 : Memref sig .tc .smem S1 .f32) (harg2 : arg2.IsWhole)
  (arg3 : Memref sig .tc .smem S16 .f32) (harg3 : arg3.IsWhole) (arg4 : Memref sig .tc .smem S4 .f32) (harg4 : arg4.IsWhole)
  (arg5 : Memref sig .tc .smem S4 .f32) (harg5 : arg5.IsWhole) (arg6 : Memref sig .tc .vmem S256x4096 .bf16) (harg6 : arg6.IsWhole)
  (arg7 : Memref sig .tc .vmem S1x4096 .f32) (harg7 : arg7.IsWhole) (arg8 : Memref sig .tc .vmem S1x128 .f32) (harg8 : arg8.IsWhole)
  (arg9 : Memref sig .tc .vmem S1x128 .f32) (harg9 : arg9.IsWhole) (arg10 : Memref sig .tc .vmem S1x256x64 .f32) (harg10 : arg10.IsWhole)
  (arg11 : Memref sig .tc .vmem S1x256x64 .f32) (harg11 : arg11.IsWhole) (arg12 : Memref sig .tc .vmem S4096x3072 .fp8e4m3) (harg12 : arg12.IsWhole)
  (arg13 : Memref sig .tc .vmem S256x4096 .fp8e4m3) (arg21 : Memref sig .tc .vmem S32x128 .f32) (harg21 : arg21.IsWhole)
  (arg22 : Memref sig .tc .vmem S24x8x128 .f32) (harg22 : arg22.IsWhole)
  (x0 : Vec F S1 .f32) (x1 : Vec F S1 .f32) (x2 : Vec F S16 .f32) (x3 : Vec F S4 .f32) (x4 : Vec F S4 .f32) (x5 : Vec F S256x4096 .bf16)
  (x6 : Vec F S1x4096 .f32) (x7 : Vec F S1x128 .f32) (x8 : Vec F S1x128 .f32) (x9 : Vec F S1x256x64 .f32) (x10 : Vec F S1x256x64 .f32)
  (x11 : Vec F S4096x3072 .fp8e4m3) (xs0 : Vec F S32x128 .f32) (xs1 : Vec F S24x8x128 .f32)

/-- A tile of 32 rows and 128 columns lies in the block of `x`. -/
theorem rd_inb (i j : ℕ) (a : Fin 2) : (![32 * (i % 8), 128 * (j % 32)] : Fin 2 → ℕ) a + S32x128.size a ≤ S256x4096.size a := by
  fin_cases a
  · show 32 * (i % 8) + 32 ≤ 256; omega
  · show 128 * (j % 32) + 128 ≤ 4096; omega

/-- 128 gains lie in the row of gains. -/
theorem rg_inb (j : ℕ) (a : Fin 2) : (![0, 128 * (j % 32)] : Fin 2 → ℕ) a + S1x128.size a ≤ S1x4096.size a := by
  fin_cases a
  · show 0 + 1 ≤ 1; omega
  · show 128 * (j % 32) + 128 ≤ 4096; omega

/-- 256 columns lie in the weights. -/
theorem rw_inb (j : ℕ) (a : Fin 2) : (![0, 256 * (j % 12)] : Fin 2 → ℕ) a + S4096x256.size a ≤ S4096x3072.size a := by
  fin_cases a
  · show 0 + 4096 ≤ 4096; omega
  · show 256 * (j % 12) + 256 ≤ 3072; omega

/-- A head lies in the queries' block, -/
theorem q_inb (j : ℕ) (a : Fin 2) : (![0, 128 * (j % 16)] : Fin 2 → ℕ) a + S256x128.size a ≤ S256x2048.size a := by
  fin_cases a
  · show 0 + 256 ≤ 256; omega
  · show 128 * (j % 16) + 128 ≤ 2048; omega

/-- or in the keys' or values'. -/
theorem k_inb (j : ℕ) (a : Fin 2) : (![0, 128 * (j % 4)] : Fin 2 → ℕ) a + S256x128.size a ≤ S256x512.size a := by
  fin_cases a
  · show 0 + 256 ≤ 256; omega
  · show 128 * (j % 4) + 128 ≤ 512; omega

/-- A head's maxima lie in the scratch. -/
theorem h_inb (j : ℕ) (a : Fin 3) : (![j % 24, 0, 0] : Fin 3 → ℕ) a + S1x8x128.size a ≤ S24x8x128.size a := by
  fin_cases a
  · show j % 24 + 1 ≤ 24; omega
  · show 0 + 8 ≤ 8; omega
  · show 0 + 128 ≤ 128; omega

/-- A head's maximum lies among 16, -/
theorem s16_inb (j : ℕ) (a : Fin 1) : (![j % 16] : Fin 1 → ℕ) a + S1.size a ≤ S16.size a := by
  fin_cases a
  show j % 16 + 1 ≤ 16; omega

/-- or among 4. -/
theorem s4_inb (j : ℕ) (a : Fin 1) : (![j % 4] : Fin 1 → ℕ) a + S1.size a ≤ S4.size a := by
  fin_cases a
  show j % 4 + 1 ≤ 4; omega

/-- 32 rows lie in 128. -/
theorem slice_rows (k : ℕ) : S128x128.Slices ![32 * (k % 4), 0] S32x128 := by
  have h : k % 4 = 0 ∨ k % 4 = 1 ∨ k % 4 = 2 ∨ k % 4 = 3 := by omega
  rcases h with h | h | h | h <;> rw [h] <;> decide

/-- 128 columns lie in 256. -/
theorem slice_half (k : ℕ) : S256x256.Slices ![0, 128 * (k % 2)] S256x128 := by
  have h : k % 2 = 0 ∨ k % 2 = 1 := by omega
  rcases h with h | h <;> rw [h] <;> decide

/-- The only index of a block of one number. -/
abbrev one : S1.Idx := Shape.Idx.first (s := S1) (by decide)

/-- The tile `j` of 128 columns of the tile `i` of 32 rows of the block of `x`, as a load. -/
def rd (i j : ℕ) : FVec F S32x128 .bf16 :=
  View.readAt (Elt F) arg6.view (Rect.unit (s := S256x4096) ![32 * (i % 8), 128 * (j % 32)] S32x128.size (rd_inb i j)).toLoadRect (harg6.unread x5)

/-- The tile `j` of 128 of the norm's weights. -/
def rg (j : ℕ) : FVec F S1x128 .f32 :=
  View.readAt (Elt F) arg7.view (Rect.unit (s := S1x4096) ![0, 128 * (j % 32)] S1x128.size (rg_inb j)).toLoadRect (harg7.unread x6)

/-- The scale of the codes of the normed rows. -/
def sx : Elt F .f32 := View.readAt (Elt F) arg1.view (Rect.unit (s := S1) ![0] S1.size inb_S1_S1_0).toLoadRect (harg1.unread x0) one

/-- That scale times the weights' scale. -/
def sxw : F .f32 :=
  k0_pay782 (sx arg1 harg1 x0) (View.readAt (Elt F) arg2.view (Rect.unit (s := S1) ![0] S1.size inb_S1_S1_0).toLoadRect (harg2.unread x1) one)

/-- The roots of the mean squares of 128 rows. -/
def roots (b : ℕ) : FVec F S128x128 .f32 :=
  spread (root (turns (groups (stack (acc (rd arg6 harg6 x5 (4 * b)) 31) (acc (rd arg6 harg6 x5 (4 * b + 1)) 31)
    (acc (rd arg6 harg6 x5 (4 * b + 2)) 31) (acc (rd arg6 harg6 x5 (4 * b + 3)) 31)))))

/-- The tile `n` of the normed rows, 32 tiles to a band of rows. -/
def nt (n : ℕ) : FVec F S32x128 .f32 :=
  normed (roots arg6 harg6 x5 (n / 128)) (32 * ((n / 32) % 4)) (slice_rows (n / 32)) (rd arg6 harg6 x5 (n / 32) n) (rg arg7 harg7 x6 n)

/-- The stores of the codes of the normed rows. -/
def xP (n : ℕ) : View.Piece (Elt F) S256x4096 .fp8e4m3 :=
  ⟨Rect.unit (s := S256x4096) ![32 * ((n / 32) % 8), 128 * (n % 32)] S32x128.size (rd_inb (n / 32) n),
    k0_pay56 (sx arg1 harg1 x0) (nt arg6 harg6 arg7 harg7 x5 x6 n)⟩

/-- The running maximum of the normed rows' magnitudes after `n` tiles, from `a` on. -/
def xmax (a : FVec F S32x128 .f32) : ℕ → FVec F S32x128 .f32
  | 0 => a
  | n + 1 => maximumf (xmax a n) (absf (nt arg6 harg6 arg7 harg7 x5 x6 n))

/-- The codes, loaded back. -/
def xc : Vec F S256x4096 .fp8e4m3 :=
  arg13.view.readCov (build (xP arg1 harg1 arg6 harg6 arg7 harg7 x0 x5 x6) 256)
    (Rect.unit (s := S256x4096) ![0, 0] S256x4096.size inb_S256x4096_S256x4096_0_0).toLoadRect

/-- Head `n` of 24, scaled: a product with 256 columns of the weights gives two heads. -/
def hp (n : ℕ) : FVec F S256x128 .f32 :=
  half (k0_pay784 (xc arg1 harg1 arg6 harg6 arg7 harg7 arg13 x0 x5 x6)
      (View.readAt (Elt F) arg12.view (Rect.unit (s := S4096x3072) ![0, 256 * ((n / 2) % 12)] S4096x256.size (rw_inb (n / 2))).toLoadRect (harg12.unread x11)))
    (128 * (n % 2)) (slice_half n) (sxw arg1 harg1 arg2 harg2 x0 x1)

/-- Cosines and sines, side by side. -/
def cs : FVec F S256x128 .f32 :=
  k0_pay780 (View.readAt (Elt F) arg10.view (Rect.unit (s := S1x256x64) ![0, 0, 0] S1x256x64.size inb_S1x256x64_S1x256x64_0_0_0).toLoadRect (harg10.unread x9))
    (View.readAt (Elt F) arg10.view (Rect.unit (s := S1x256x64) ![0, 0, 0] S1x256x64.size inb_S1x256x64_S1x256x64_0_0_0).toLoadRect (harg10.unread x9))

/-- The sines, the first half negated. -/
def sn : FVec F S256x128 .f32 :=
  k0_pay781 (View.readAt (Elt F) arg11.view (Rect.unit (s := S1x256x64) ![0, 0, 0] S1x256x64.size inb_S1x256x64_S1x256x64_0_0_0).toLoadRect (harg11.unread x10))
    (View.readAt (Elt F) arg11.view (Rect.unit (s := S1x256x64) ![0, 0, 0] S1x256x64.size inb_S1x256x64_S1x256x64_0_0_0).toLoadRect (harg11.unread x10))

/-- Head `n` as it is stored: queries and keys normed and rotated, values as they are. -/
def hv (n : ℕ) : FVec F S256x128 .f32 :=
  if n < 16 then
    k0_pay786 (cs arg10 harg10 x9) (sn arg11 harg11 x10) (hp arg1 harg1 arg2 harg2 arg6 harg6 arg7 harg7 arg12 harg12 arg13 x0 x1 x5 x6 x11 n)
      (View.readAt (Elt F) arg8.view (Rect.unit (s := S1x128) ![0, 0] S1x128.size inb_S1x128_S1x128_0_0).toLoadRect (harg8.unread x7))
  else if n < 20 then
    k0_pay786 (cs arg10 harg10 x9) (sn arg11 harg11 x10) (hp arg1 harg1 arg2 harg2 arg6 harg6 arg7 harg7 arg12 harg12 arg13 x0 x1 x5 x6 x11 n)
      (View.readAt (Elt F) arg9.view (Rect.unit (s := S1x128) ![0, 0] S1x128.size inb_S1x128_S1x128_0_0).toLoadRect (harg9.unread x8))
  else hp arg1 harg1 arg2 harg2 arg6 harg6 arg7 harg7 arg12 harg12 arg13 x0 x1 x5 x6 x11 n

/-- The stores of the codes of the queries, -/
def qP (h : ℕ → FVec F S256x128 .f32) (n : ℕ) : View.Piece (Elt F) S256x2048 .fp8e4m3 :=
  ⟨Rect.unit (s := S256x2048) ![0, 128 * (n % 16)] S256x128.size (q_inb n),
    k0_pay876 (h n)
      (View.readAt (Elt F) arg3.view (Rect.unit (s := S16) ![n % 16] S1.size (s16_inb n)).toLoadRect (harg3.unread x2) one)⟩

/-- and of the keys and of the values. -/
def kP (arg : Memref sig .tc .smem S4 .f32) (harg : arg.IsWhole) (x : Vec F S4 .f32) (h : ℕ → FVec F S256x128 .f32) (n : ℕ) :
    View.Piece (Elt F) S256x512 .fp8e4m3 :=
  ⟨Rect.unit (s := S256x512) ![0, 128 * (n % 4)] S256x128.size (k_inb n),
    k0_pay876 (h n)
      (View.readAt (Elt F) arg.view (Rect.unit (s := S4) ![n % 4] S1.size (s4_inb n)).toLoadRect (harg.unread x) one)⟩

/-- The stores of the heads' running maxima over what the scratch held. -/
def hP (h : ℕ → FVec F S256x128 .f32) (n : ℕ) : View.Piece (Elt F) S24x8x128 .f32 :=
  ⟨Rect.unit (s := S24x8x128) ![n % 24, 0, 0] S1x8x128.size (h_inb n),
    k0_pay882 (h n)
      (View.readAt (Elt F) arg22.view (Rect.unit (s := S24x8x128) ![n % 24, 0, 0] S1x8x128.size (h_inb n)).toLoadRect (harg22.unread xs1))⟩

/-- The same stores after a reset. -/
def hA (h : ℕ → FVec F S256x128 .f32) : ℕ → List (View.Piece (Elt F) S24x8x128 .f32)
  | 0 => [⟨Rect.unit (s := S24x8x128) ![0, 0, 0] S24x8x128.size inb_S24x8x128_S24x8x128_0_0_0, k0_pay30⟩]
  | n + 1 => ⟨Rect.unit (s := S24x8x128) ![n % 24, 0, 0] S1x8x128.size (h_inb n),
      k0_pay882 (h n) (arg22.view.readCov (hA h n) (Rect.unit (s := S24x8x128) ![n % 24, 0, 0] S1x8x128.size (h_inb n)).toLoadRect)⟩ :: hA h n

/-- The largest entry of one head's running maxima, as it is stored at the end. -/
def mP16 (L : List (View.Piece (Elt F) S24x8x128 .f32)) (n : ℕ) : View.Piece (Elt F) S16 .f32 :=
  ⟨Rect.unit (s := S16) ![n % 16] S1.size (s16_inb n),
    fun _ => k0_pay5 (arg22.view.readCov L (Rect.unit (s := S24x8x128) ![n % 24, 0, 0] S1x8x128.size (h_inb n)).toLoadRect)⟩

/-- The stores of the maxima of keys or values, one per head from head `o` on. -/
def mP4 (o : ℕ) (L : List (View.Piece (Elt F) S24x8x128 .f32)) (n : ℕ) : View.Piece (Elt F) S4 .f32 :=
  ⟨Rect.unit (s := S4) ![n % 4] S1.size (s4_inb n),
    fun _ => k0_pay5 (arg22.view.readCov L (Rect.unit (s := S24x8x128) ![(o + n) % 24, 0, 0] S1x8x128.size (h_inb (o + n))).toLoadRect)⟩

/-! ## The kernel's own stores are these -/

variable (m : (ℓ : Loc nD τ sig) → Buf (Elt F) ℓ)

/-- The heads at grid point `t`. -/
abbrev hvt (c : Dev nD) (t : Fin cfg0.N) : ℕ → FVec F S256x128 .f32 :=
  hv (ms0_0 t) (hs0_0 t) (ms0_1 t) (hs0_1 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (iblk m c 0 t) (iblk m c 1 t) (iblk m c 5 t) (iblk m c 6 t) (iblk m c 7 t) (iblk m c 8 t)
    (iblk m c 9 t) (iblk m c 10 t) (iblk m c 11 t)

/-- The normed tiles' running maximum at grid point `t`. -/
abbrev xmt (c : Dev nD) (t : Fin cfg0.N) (a : FVec F S32x128 .f32) : FVec F S32x128 .f32 :=
  xmax (ms0_5 t) (hs0_5 t) (ms0_6 t) (hs0_6 t) (iblk m c 5 t) (iblk m c 6 t) a 256

end Cert.QkvIdeal.Hand

end
-- ==== Proof.QkvValues.lean ====
module

public import proofs.«01_k».proof.Proof.QkvTiles

@[expose] public section

set_option maxRecDepth 16384

noncomputable section

namespace Cert.QkvIdeal.Hand

open Cert.QkvIdeal Cert.QkvIdeal.Gen Idealize.ShloMosaic Idealize.ShloMosaic.TcCoe Idealize.SL.Sem

/-! ## Tables read at natural numbers -/

/-- The entry `(i, j)` of a table, 0 outside of it. -/
def at2 (a b : ℕ) (X : (⟨2, ![a, b]⟩ : Shape).Idx → EReal) (i j : ℕ) : EReal :=
  if h : i < a ∧ j < b then X (ix2 ⟨i, h.1⟩ ⟨j, h.2⟩) else 0

/-- The entry `(h, i, j)` of a stack of tables, 0 outside of it. -/
def at3 (a b c : ℕ) (X : (⟨3, ![a, b, c]⟩ : Shape).Idx → EReal) (i j k : ℕ) : EReal :=
  if h : i < a ∧ j < b ∧ k < c then X (ix3 ⟨i, h.1⟩ ⟨j, h.2.1⟩ ⟨k, h.2.2⟩) else 0

/-- The entry `i` of a row of numbers, 0 outside of it. -/
def at1 (a : ℕ) (X : (⟨1, ![a]⟩ : Shape).Idx → EReal) (i : ℕ) : EReal :=
  if h : i < a then X (ix1 ⟨i, h⟩) else 0

/-- Inside of a table, its entry is the one at that place; -/
theorem at2_of {a b : ℕ} (X : (⟨2, ![a, b]⟩ : Shape).Idx → EReal) {i j : ℕ} (hi : i < a) (hj : j < b) : X (ix2 ⟨i, hi⟩ ⟨j, hj⟩) = at2 a b X i j := by
  rw [at2, dif_pos ⟨hi, hj⟩]

/-- so it is in a stack of tables, -/
theorem at3_of {a b c : ℕ} (X : (⟨3, ![a, b, c]⟩ : Shape).Idx → EReal) {i j k : ℕ} (hi : i < a) (hj : j < b) (hk : k < c) :
    X (ix3 ⟨i, hi⟩ ⟨j, hj⟩ ⟨k, hk⟩) = at3 a b c X i j k := by
  rw [at3, dif_pos ⟨hi, hj, hk⟩]

/-- and in a row. -/
theorem at1_of {a : ℕ} (X : (⟨1, ![a]⟩ : Shape).Idx → EReal) {i : ℕ} (hi : i < a) : X (ix1 ⟨i, hi⟩) = at1 a X i := by
  rw [at1, dif_pos hi]

/-! ## The mathematics of one row -/

/-- Column `j` of a row's product with the weights: the row normed, coded, multiplied, scaled. -/
def prdR (s a : EReal) (x g : ℕ → EReal) (w : ℕ → ℕ → EReal) (j : ℕ) : EReal :=
  (∑ k : Fin 4096, clip s (normV x g k) * w k j) * (s * a)

/-- Entry `d` of head `n` of a row: queries are heads 0 to 15, keys 16 to 19, values 20 to 23. -/
def headR (s a : EReal) (x g : ℕ → EReal) (w : ℕ → ℕ → EReal) (γ γ' κ σ : ℕ → EReal) (n d : ℕ) : EReal :=
  if n < 16 then ropeV (fun i => prdR s a x g w (128 * n + i)) γ κ σ d
  else if n < 20 then ropeV (fun i => prdR s a x g w (128 * n + i)) γ' κ σ d
  else prdR s a x g w (128 * n + d)

/-! ## The stores of a family -/

/-- The members of a family of stores. -/
theorem mem_build {α : Type} (P : ℕ → α) (n : ℕ) (p : α) : p ∈ build P n ↔ ∃ k < n, p = P k := by
  induction n with
  | zero => simp [build]
  | succ n ih =>
    rw [build, List.mem_cons, ih]
    constructor
    · rintro (h | ⟨k, hk, h⟩)
      · exact ⟨n, by omega, h⟩
      · exact ⟨k, by omega, h⟩
    · rintro ⟨k, hk, h⟩
      rcases Nat.lt_or_ge k n with h' | h'
      · exact Or.inr ⟨k, h', h⟩
      · obtain rfl : k = n := by omega
        exact Or.inl h

/-- What the stores of a family leave at `y`, if one of them has `y` and all that have it agree. -/
theorem canon_build {S : Shape} {e : EltTy} (P : ℕ → View.Piece (Elt Ideal) S e) (n : ℕ) (y : S.Idx) (v : Elt Ideal e)
    (hc : ∃ k < n, y ∈ (P k).1.set) (h : ∀ k < n, ∀ x : (P k).1.shape.Idx, (P k).1.emb x = y → (P k).2 x = v) :
    View.canon (build P n) y = v := by
  refine View.canon_eq_of_allAt _ y v ?_ ?_
  · obtain ⟨k, hk, hy⟩ := hc
    exact ⟨P k, (mem_build P n _).2 ⟨k, hk, rfl⟩, hy⟩
  · intro p hp
    obtain ⟨k, hk, rfl⟩ := (mem_build P n p).1 hp
    exact h k hk

/-- A load of a block out of a whole buffer reads the entry the block's offset further on. -/
theorem read_block {sig : RefSig} {κ : Kind} {sp : Space} {s : Shape} {e : EltTy} (mr : Memref sig κ sp s e) (h : mr.IsWhole) (x : s.Idx → Elt Ideal e)
    (off size : Fin s.rank → ℕ) (inb : ∀ a, off a + size a ≤ s.size a) (j : (Rect.unit off size inb).shape.Idx) (i : s.Idx)
    (hi : ∀ a, (i a : ℕ) = off a + j a) :
    View.readAt (Elt Ideal) mr.view (Rect.unit off size inb).toLoadRect (h.unread x) j = x i := by
  rw [View.readAt_eq_ld, h.read_unread]
  exact View.ld_unit_apply_of x off size inb j i hi

variable (arg1 : Memref sig .tc .smem S1 .f32) (harg1 : arg1.IsWhole) (arg2 : Memref sig .tc .smem S1 .f32) (harg2 : arg2.IsWhole)
  (arg3 : Memref sig .tc .smem S16 .f32) (harg3 : arg3.IsWhole) (arg4 : Memref sig .tc .smem S4 .f32) (harg4 : arg4.IsWhole)
  (arg5 : Memref sig .tc .smem S4 .f32) (harg5 : arg5.IsWhole) (arg6 : Memref sig .tc .vmem S256x4096 .bf16) (harg6 : arg6.IsWhole)
  (arg7 : Memref sig .tc .vmem S1x4096 .f32) (harg7 : arg7.IsWhole) (arg8 : Memref sig .tc .vmem S1x128 .f32) (harg8 : arg8.IsWhole)
  (arg9 : Memref sig .tc .vmem S1x128 .f32) (harg9 : arg9.IsWhole) (arg10 : Memref sig .tc .vmem S1x256x64 .f32) (harg10 : arg10.IsWhole)
  (arg11 : Memref sig .tc .vmem S1x256x64 .f32) (harg11 : arg11.IsWhole) (arg12 : Memref sig .tc .vmem S4096x3072 .fp8e4m3) (harg12 : arg12.IsWhole)
  (arg13 : Memref sig .tc .vmem S256x4096 .fp8e4m3) (arg21 : Memref sig .tc .vmem S32x128 .f32) (harg21 : arg21.IsWhole)
  (arg22 : Memref sig .tc .vmem S24x8x128 .f32) (harg22 : arg22.IsWhole)
  (x0 : Vec Ideal S1 .f32) (x1 : Vec Ideal S1 .f32) (x2 : Vec Ideal S16 .f32) (x3 : Vec Ideal S4 .f32) (x4 : Vec Ideal S4 .f32) (x5 : Vec Ideal S256x4096 .bf16)
  (x6 : Vec Ideal S1x4096 .f32) (x7 : Vec Ideal S1x128 .f32) (x8 : Vec Ideal S1x128 .f32) (x9 : Vec Ideal S1x256x64 .f32) (x10 : Vec Ideal S1x256x64 .f32)
  (x11 : Vec Ideal S4096x3072 .fp8e4m3) (xs0 : Vec Ideal S32x128 .f32) (xs1 : Vec Ideal S24x8x128 .f32)

/-! ## One grid point's loads and norms -/

/-- A tile of `x` read from the block. -/
theorem rd_apply (i j : ℕ) (u : Fin 32) (l : Fin 128) :
    rd (F := Ideal) arg6 harg6 x5 i j (ix2 u l) = at2 256 4096 x5 (32 * (i % 8) + u) (128 * (j % 32) + l) := by
  rw [← at2_of (a := 256) (b := 4096) x5 (by omega) (by omega)]
  exact read_block arg6 harg6 x5 _ _ _ _ _ (by intro a; fin_cases a <;> rfl)

/-- 128 gains read from the row. -/
theorem rg_apply (j : ℕ) (l : Fin 128) : rg (F := Ideal) arg7 harg7 x6 j (ix2 0 l) = at2 1 4096 x6 0 (128 * (j % 32) + l) := by
  rw [← at2_of (a := 1) (b := 4096) x6 (by omega) (by omega)]
  exact read_block arg7 harg7 x6 _ _ _ _ _ (by intro a; fin_cases a <;> rfl)

/-- A number read from an array of one entry. -/
theorem s1_apply (arg : Memref sig .tc .smem S1 .f32) (harg : arg.IsWhole) (x : Vec Ideal S1 .f32) (j : S1.Idx) :
    View.readAt (Elt Ideal) arg.view (Rect.unit (s := S1) ![0] S1.size inb_S1_S1_0).toLoadRect (harg.unread x) j = x (ix1 0) :=
  read_block arg harg x _ _ _ _ _ (by
    intro a; fin_cases a
    have h : (j 0).val < 1 := (j 0).isLt
    show 0 = 0 + (j 0).val; omega)

/-- The scale of the normed rows. -/
theorem sx_apply : sx (F := Ideal) arg1 harg1 x0 = x0 (ix1 0) := s1_apply arg1 harg1 x0 _

/-- The product of the two scales. -/
theorem sxw_apply : sxw (F := Ideal) arg1 harg1 arg2 harg2 x0 x1 = x0 (ix1 0) * x1 (ix1 0) := by
  unfold sxw
  rw [sx_apply, s1_apply]
  rfl

/-- The root of a row's mean square: 128 rows at a time. -/
theorem roots_apply (b : ℕ) (hb : b < 2) (r l : Fin 128) :
    roots (F := Ideal) arg6 harg6 x5 b (ix2 r l) = rms 4096 0x45800000#32 (at2 256 4096 x5 (128 * b + r)) := by
  unfold roots rms
  rw [rms_apply _ r l (fun n => ∑ j ∈ Finset.range 32, at2 256 4096 x5 (128 * b + r) (j * 128 + n) * at2 256 4096 x5 (128 * b + r) (j * 128 + n)) ?_,
    Finset.sum_comm, ← sum_blocks (fun n => at2 256 4096 x5 (128 * b + r) n * at2 256 4096 x5 (128 * b + r) n) 32 128, div_4096]
  intro n h
  refine (stack_apply (fun k => acc (rd (F := Ideal) arg6 harg6 x5 (4 * b + k)) 31) ⟨n, h⟩ r).trans ?_
  rw [acc_apply]
  refine Finset.sum_congr rfl fun j hj => ?_
  have hj : j < 32 := Finset.mem_range.mp hj
  rw [rd_apply]
  have e0 : 32 * ((4 * b + r.val / 32) % 8) + r.val % 32 = 128 * b + r.val := by omega
  have e1 : 128 * (j % 32) + n = j * 128 + n := by omega
  rw [show 32 * ((4 * b + r.val / 32) % 8) + ((⟨r.val % 32, Nat.mod_lt _ (by omega)⟩ : Fin 32) : ℕ) = 128 * b + r.val from e0,
    show 128 * (j % 32) + ((⟨n, h⟩ : Fin 128) : ℕ) = j * 128 + n from e1]

/-- One tile of the normed rows. -/
theorem nt_apply (n : ℕ) (hn : n < 256) (u : Fin 32) (l : Fin 128) :
    nt (F := Ideal) arg6 harg6 arg7 harg7 x5 x6 n (ix2 u l)
      = normV (at2 256 4096 x5 (32 * (n / 32) + u)) (at2 1 4096 x6 0) (128 * (n % 32) + l) := by
  unfold nt
  rw [normed_apply _ _ _ _ _ u l (by omega), roots_apply _ _ _ _ (by omega), rd_apply, rg_apply, normV]
  have e0 : 128 * (n / 128) + (32 * (n / 32 % 4) + u.val) = 32 * (n / 32) + u.val := by omega
  have e1 : 32 * (n / 32 % 8) + u.val = 32 * (n / 32) + u.val := by omega
  rw [show 128 * (n / 128) + ((⟨32 * (n / 32 % 4) + u.val, by omega⟩ : Fin 128) : ℕ) = 32 * (n / 32) + u.val from e0, e1]

/-- The codes of the normed rows, as they are stored. -/
theorem x_canon (y : Fin 256) (k : Fin 4096) :
    View.canon (build (xP (F := Ideal) arg1 harg1 arg6 harg6 arg7 harg7 x0 x5 x6) 256) (ix2 y k)
      = clip (x0 (ix1 0)) (normV (at2 256 4096 x5 y) (at2 1 4096 x6 0) k) := by
  refine canon_build _ 256 _ _ ⟨32 * (y.val / 32) + k.val / 128, by omega, ?_⟩ ?_
  · refine (Rect.mem_set_unit (inb := rd_inb _ _)).2 fun a => ?_
    fin_cases a
    · show 32 * ((32 * (y.val / 32) + k.val / 128) / 32 % 8) ≤ y.val ∧ y.val < 32 * ((32 * (y.val / 32) + k.val / 128) / 32 % 8) + 32
      omega
    · show 128 * ((32 * (y.val / 32) + k.val / 128) % 32) ≤ k.val ∧ k.val < 128 * ((32 * (y.val / 32) + k.val / 128) % 32) + 128
      omega
  · intro n hn (x : S32x128.Idx) hx
    have h0 : 32 * (n / 32 % 8) + 1 * (x 0).val = y.val := congrArg Fin.val (congrFun hx 0)
    have h1 : 128 * (n % 32) + 1 * (x 1).val = k.val := congrArg Fin.val (congrFun hx 1)
    have e0 : 32 * (n / 32) + (x 0).val = y.val := by omega
    have e1 : 128 * (n % 32) + (x 1).val = k.val := by omega
    show k0_pay56 (F := Ideal) _ _ x = _
    rw [code_apply, sx_apply, ← e0, ← e1]
    refine congrArg (clip _) ?_
    exact (congrArg _ (eq_ix2 x)).trans (nt_apply arg6 harg6 arg7 harg7 x5 x6 n hn (x 0) (x 1))

/-- The codes read back, as the first operand of the products. -/
theorem xc_apply (y : Fin 256) (k : Fin 4096) :
    xc (F := Ideal) arg1 harg1 arg6 harg6 arg7 harg7 arg13 x0 x5 x6 (ix2 y k)
      = clip (x0 (ix1 0)) (normV (at2 256 4096 x5 y) (at2 1 4096 x6 0) k) := by
  unfold xc
  rw [View.readCov_eq_canon']
  refine Eq.trans (congrArg _ ?_) (x_canon arg1 harg1 arg6 harg6 arg7 harg7 x0 x5 x6 y k)
  funext a; fin_cases a
  · exact Fin.ext (show 0 + 1 * y.val = y.val by omega)
  · exact Fin.ext (show 0 + 1 * k.val = k.val by omega)

/-- A head before its norm: its columns of the product, times the scales. -/
theorem hp_apply (n : ℕ) (hn : n < 24) (y : Fin 256) (d : Fin 128) :
    hp (F := Ideal) arg1 harg1 arg2 harg2 arg6 harg6 arg7 harg7 arg12 harg12 arg13 x0 x1 x5 x6 x11 n (ix2 y d)
      = prdR (x0 (ix1 0)) (x1 (ix1 0)) (at2 256 4096 x5 y) (at2 1 4096 x6 0) (at2 4096 3072 x11) (128 * n + d) := by
  unfold hp
  rw [half_apply _ _ _ _ y d (by omega), prod_apply, sxw_apply, prdR]
  refine congrArg (fun z : EReal => z * _) (Finset.sum_congr rfl fun k _ => ?_)
  rw [xc_apply]
  refine congrArg₂ (fun a b : EReal => a * b) rfl ?_
  rw [← at2_of (a := 4096) (b := 3072) x11 k.isLt (by omega)]
  refine read_block arg12 harg12 x11 _ _ _ _ _ fun a => ?_
  fin_cases a
  · show k.val = 0 + k.val; omega
  · show 128 * n + d.val = 256 * (n / 2 % 12) + (128 * (n % 2) + d.val); omega

/-- A gain of a head's row of gains. -/
theorem row_apply (arg : Memref sig .tc .vmem S1x128 .f32) (harg : arg.IsWhole) (x : Vec Ideal S1x128 .f32) (n : ℕ) (h : n < 128) :
    View.readAt (Elt Ideal) arg.view (Rect.unit (s := S1x128) ![0, 0] S1x128.size inb_S1x128_S1x128_0_0).toLoadRect (harg.unread x) (ix2 0 ⟨n, h⟩)
      = at2 1 128 x 0 n := by
  rw [← at2_of (a := 1) (b := 128) x (by omega) h]
  refine read_block arg harg x _ _ _ _ _ fun a => ?_
  fin_cases a
  · rfl
  · show n = 0 + n; omega

/-- An entry of the block of cosines or sines. -/
theorem table_apply (arg : Memref sig .tc .vmem S1x256x64 .f32) (harg : arg.IsWhole) (x : Vec Ideal S1x256x64 .f32) (y : Fin 256) (n : ℕ) (h : n < 64) :
    View.readAt (Elt Ideal) arg.view (Rect.unit (s := S1x256x64) ![0, 0, 0] S1x256x64.size inb_S1x256x64_S1x256x64_0_0_0).toLoadRect (harg.unread x)
        (ix3 0 y ⟨n, h⟩) = at3 1 256 64 x 0 y n := by
  rw [← at3_of (a := 1) (b := 256) (c := 64) x (by omega) y.isLt h]
  refine read_block arg harg x _ _ _ _ _ fun a => ?_
  fin_cases a
  · rfl
  · show y.val = 0 + y.val; omega
  · show n = 0 + n; omega

/-- One head of one grid point. -/
theorem hv_apply (n : ℕ) (hn : n < 24) (y : Fin 256) (d : Fin 128) :
    hv (F := Ideal) arg1 harg1 arg2 harg2 arg6 harg6 arg7 harg7 arg8 harg8 arg9 harg9 arg10 harg10 arg11 harg11 arg12 harg12 arg13 x0 x1 x5 x6 x7 x8
        x9 x10 x11 n (ix2 y d)
      = headR (x0 (ix1 0)) (x1 (ix1 0)) (at2 256 4096 x5 y) (at2 1 4096 x6 0) (at2 4096 3072 x11) (at2 1 128 x7 0) (at2 1 128 x8 0)
          (at3 1 256 64 x9 0 y) (at3 1 256 64 x10 0 y) n d := by
  unfold hv headR cs sn
  split
  · exact rope_apply _ _ _ _ y d _ _ _ _ (fun i h => hp_apply _ _ _ _ _ _ _ _ _ _ _ _ _ _ _ _ n hn y ⟨i, h⟩)
      (row_apply _ _ _) (table_apply _ _ _ y) (table_apply _ _ _ y)
  · split
    · exact rope_apply _ _ _ _ y d _ _ _ _ (fun i h => hp_apply _ _ _ _ _ _ _ _ _ _ _ _ _ _ _ _ n hn y ⟨i, h⟩)
        (row_apply _ _ _) (table_apply _ _ _ y) (table_apply _ _ _ y)
    · exact hp_apply _ _ _ _ _ _ _ _ _ _ _ _ _ _ _ _ n hn y d

/-- The codes of the queries, as they are stored, from the heads' entries. -/
theorem q_canon (h : ℕ → FVec Ideal S256x128 .f32) (H : ℕ → ℕ → ℕ → EReal)
    (hH : ∀ n < 24, ∀ (y : Fin 256) (d : Fin 128), h n (ix2 y d) = H n y d) (y : Fin 256) (j : Fin 2048) :
    View.canon (build (qP (F := Ideal) arg3 harg3 x2 h) 16) (ix2 y j) = clip (at1 16 x2 (j / 128)) (H (j / 128) y (j % 128)) := by
  refine canon_build _ 16 _ _ ⟨j.val / 128, by omega, ?_⟩ ?_
  · refine (Rect.mem_set_unit (inb := q_inb _)).2 fun a => ?_
    fin_cases a
    · show 0 ≤ y.val ∧ y.val < 0 + 256
      omega
    · show 128 * (j.val / 128 % 16) ≤ j.val ∧ j.val < 128 * (j.val / 128 % 16) + 128
      omega
  · intro n hn (x : S256x128.Idx) hx
    have h0 : 0 + 1 * (x 0).val = y.val := congrArg Fin.val (congrFun hx 0)
    have h1 : 128 * (n % 16) + 1 * (x 1).val = j.val := congrArg Fin.val (congrFun hx 1)
    have hx1 : (x 1).val < 128 := (x 1).isLt
    have e0 : (x 0).val = y.val := by omega
    have e1 : j.val / 128 = n := by omega
    have e2 : (x 1).val = j.val % 128 := by omega
    show k0_pay876 (F := Ideal) _ _ x = _
    rw [hcode_apply, e1, ← e0, ← e2, ← at1_of (a := 16) x2 hn]
    refine congrArg₂ clip ?_ ?_
    · refine read_block arg3 harg3 x2 _ _ _ _ _ fun a => ?_
      fin_cases a
      show n = n % 16 + 0; omega
    · exact (congrArg _ (eq_ix2 x)).trans (hH n (by omega) (x 0) (x 1))

/-- The codes of the keys, and of the values. -/
theorem k_canon (arg : Memref sig .tc .smem S4 .f32) (harg : arg.IsWhole) (x : Vec Ideal S4 .f32) (h : ℕ → FVec Ideal S256x128 .f32) (H : ℕ → ℕ → ℕ → EReal)
    (hH : ∀ n < 4, ∀ (y : Fin 256) (d : Fin 128), h n (ix2 y d) = H n y d) (y : Fin 256) (j : Fin 512) :
    View.canon (build (kP (F := Ideal) arg harg x h) 4) (ix2 y j) = clip (at1 4 x (j / 128)) (H (j / 128) y (j % 128)) := by
  refine canon_build _ 4 _ _ ⟨j.val / 128, by omega, ?_⟩ ?_
  · refine (Rect.mem_set_unit (inb := k_inb _)).2 fun a => ?_
    fin_cases a
    · show 0 ≤ y.val ∧ y.val < 0 + 256
      omega
    · show 128 * (j.val / 128 % 4) ≤ j.val ∧ j.val < 128 * (j.val / 128 % 4) + 128
      omega
  · intro n hn (z : S256x128.Idx) hx
    have h0 : 0 + 1 * (z 0).val = y.val := congrArg Fin.val (congrFun hx 0)
    have h1 : 128 * (n % 4) + 1 * (z 1).val = j.val := congrArg Fin.val (congrFun hx 1)
    have hx1 : (z 1).val < 128 := (z 1).isLt
    have e0 : (z 0).val = y.val := by omega
    have e1 : j.val / 128 = n := by omega
    have e2 : (z 1).val = j.val % 128 := by omega
    show k0_pay876 (F := Ideal) _ _ z = _
    rw [hcode_apply, e1, ← e0, ← e2, ← at1_of (a := 4) x hn]
    refine congrArg₂ clip ?_ ?_
    · refine read_block arg harg x _ _ _ _ _ fun a => ?_
      fin_cases a
      show n = n % 4 + 0; omega
    · exact (congrArg _ (eq_ix2 z)).trans (hH n hn (z 0) (z 1))

end Cert.QkvIdeal.Hand

end
-- ==== Proof.QkvMaxima.lean ====
module

public import proofs.«01_k».proof.Proof.QkvValues

@[expose] public section

set_option maxRecDepth 16384

noncomputable section

namespace Cert.QkvIdeal.Hand

open Cert.QkvIdeal Cert.QkvIdeal.Gen Idealize.ShloMosaic Idealize.ShloMosaic.TcCoe Idealize.SL.Sem

/-! ## Maxima of magnitudes

Two numbers with the same upper bounds are equal, so we say of every maximum what its upper bounds are. -/

/-- The magnitude of a number. -/
def mag (v : EReal) : EReal := max v (-v)

/-- A magnitude is not negative. -/
theorem mag_nonneg (x : EReal) : 0 ≤ mag x := by
  rcases le_total 0 x with h | h
  · exact le_max_of_le_left h
  · exact le_max_of_le_right (EReal.neg_nonneg.mpr h)

/-- The bit pattern that maxima start from is minus infinity. -/
theorem neg_inf : Ideal.ofBits .f32 0xFF800000#32 = (⊥ : EReal) := by
  simp [Ideal.ofBits, Ideal.ieee]

/-- A maximum over a finite type is bounded exactly when all its entries are. -/
theorem fold_le {α : Type} [Fintype α] (f : α → EReal) (B : EReal) : Finset.univ.fold max ⊥ f ≤ B ↔ ∀ x, f x ≤ B := by
  rw [Finset.fold_max_le]
  exact ⟨fun h x => h.2 x (Finset.mem_univ x), fun h => ⟨bot_le, fun x _ => h x⟩⟩

/-- The same for a maximum over the entries with a property. -/
theorem fold_filter_le {α : Type} [Fintype α] (p : α → Prop) [DecidablePred p] (f : α → EReal) (B : EReal) :
    (Finset.univ.filter p).fold max ⊥ f ≤ B ↔ ∀ x, p x → f x ≤ B := by
  rw [Finset.fold_max_le]
  exact ⟨fun h x hx => h.2 x (Finset.mem_filter.2 ⟨Finset.mem_univ x, hx⟩), fun h => ⟨bot_le, fun x hx => h x (Finset.mem_filter.1 hx).2⟩⟩

variable (arg6 : Memref sig .tc .vmem S256x4096 .bf16) (harg6 : arg6.IsWhole) (arg7 : Memref sig .tc .vmem S1x4096 .f32) (harg7 : arg7.IsWhole)
  (arg22 : Memref sig .tc .vmem S24x8x128 .f32) (harg22 : arg22.IsWhole)
  (x5 : Vec Ideal S256x4096 .bf16) (x6 : Vec Ideal S1x4096 .f32) (xs1 : Vec Ideal S24x8x128 .f32)

/-- The normed rows' running maximum at row `u` of 32 and lane `l`. -/
theorem xmax_le (a : FVec Ideal S32x128 .f32) (u : Fin 32) (l : Fin 128) (B : EReal) : ∀ N ≤ 256,
    xmax (F := Ideal) arg6 harg6 arg7 harg7 x5 x6 a N (ix2 u l) ≤ B
      ↔ a (ix2 u l) ≤ B ∧ ∀ n < N, mag (normV (at2 256 4096 x5 (32 * (n / 32) + u)) (at2 1 4096 x6 0) (128 * (n % 32) + l)) ≤ B := by
  intro N
  induction N with
  | zero => intro _; simp [xmax]
  | succ n ih =>
    intro hn
    have e : xmax (F := Ideal) arg6 harg6 arg7 harg7 x5 x6 a (n + 1) (ix2 u l)
        = max (xmax (F := Ideal) arg6 harg6 arg7 harg7 x5 x6 a n (ix2 u l)) (mag (nt (F := Ideal) arg6 harg6 arg7 harg7 x5 x6 n (ix2 u l))) := rfl
    rw [e, max_le_iff, ih (by omega), nt_apply _ _ _ _ _ _ n (by omega)]
    constructor
    · rintro ⟨⟨h0, h1⟩, h2⟩
      refine ⟨h0, fun k hk => ?_⟩
      rcases Nat.lt_or_ge k n with h' | h'
      · exact h1 k h'
      · obtain rfl : k = n := by omega
        exact h2
    · rintro ⟨h0, h1⟩
      exact ⟨⟨h0, fun k hk => h1 k (by omega)⟩, h1 n (by omega)⟩

/-- One head's step of the running maxima: rows that are `r` modulo 8. -/
theorem step_le (v : FVec Ideal S256x128 .f32) (old : FVec Ideal S1x8x128 .f32) (r : Fin 8) (l : Fin 128) (B : EReal) :
    k0_pay882 (F := Ideal) v old (ix3 0 r l) ≤ B
      ↔ old (ix3 0 r l) ≤ B ∧ ∀ g : Fin 32, mag (v (ix2 ⟨g.val * 8 + r.val, by omega⟩ l)) ≤ B := by
  have e : k0_pay882 (F := Ideal) v old (ix3 0 r l)
      = max (old (ix3 0 r l)) (Finset.univ.fold max (Ideal.ofBits .f32 0xFF800000#32) fun g : Fin 32 =>
          FloatOps.absf (v (ix2 ⟨g.val * 8 + r.val, by omega⟩ l))) := by
    pointwise [k0_pay882]
  rw [e, max_le_iff, neg_inf, fold_le]
  rfl

/-- The largest entry of one head's running maxima. -/
theorem head_le (v : FVec Ideal S1x8x128 .f32) (B : EReal) : k0_pay5 (F := Ideal) v ≤ B ↔ ∀ (r : Fin 8) (l : Fin 128), v (ix3 0 r l) ≤ B := by
  have e : k0_pay5 (F := Ideal) v = Finset.univ.fold max (Ideal.ofBits .f32 0xFF800000#32) fun x : Fin 8 × Fin 128 => v (ix3 0 x.1 x.2) := by
    pointwise [k0_pay5]
  rw [e, neg_inf, fold_le]
  exact ⟨fun h r l => h (r, l), fun h x => h x.1 x.2⟩

/-- The largest of the normed rows' running maxima. -/
theorem all_le (v : FVec Ideal S32x128 .f32) (B : EReal) : k0_pay4 (F := Ideal) v ≤ B ↔ ∀ (u : Fin 32) (l : Fin 128), v (ix2 u l) ≤ B := by
  have e : k0_pay4 (F := Ideal) v = Finset.univ.fold max (Ideal.ofBits .f32 0xFF800000#32) fun x : Fin 32 × Fin 128 => v (ix2 x.1 x.2) := by
    pointwise [k0_pay4]
  rw [e, neg_inf, fold_le]
  exact ⟨fun h r l => h (r, l), fun h x => h x.1 x.2⟩

/-- The tile stored is the running maximum itself. -/
theorem same_apply (v : FVec Ideal S32x128 .f32) (y : S32x128.Idx) : k0_pay779 (F := Ideal) v y = v y := by
  pointwise [k0_pay779]

/-- The first grid point's rows of maxima are zeros; -/
theorem zeros_apply (y : S32x128.Idx) : k0_pay29 (F := Ideal) y = 0 := by
  pointwise [k0_pay29]

/-- so are its heads' maxima. -/
theorem zeros3_apply (y : S24x8x128.Idx) : k0_pay30 (F := Ideal) y = 0 := by
  pointwise [k0_pay30]

/-- The place of one head's block in the scratch. -/
theorem emb_head (n : ℕ) (hn : n < 24) (r : Fin 8) (l : Fin 128) :
    (Rect.unit (s := S24x8x128) ![n % 24, 0, 0] S1x8x128.size (h_inb n)).emb (ix3 0 r l) = ix3 ⟨n, hn⟩ r l := by
  funext a
  fin_cases a
  · exact Fin.ext (show n % 24 + 1 * 0 = n by omega)
  · exact Fin.ext (show 0 + 1 * r.val = r.val by omega)
  · exact Fin.ext (show 0 + 1 * l.val = l.val by omega)

/-- A load of one head's block reads what the stores before it left. -/
theorem load_head (L : List (View.Piece (Elt Ideal) S24x8x128 .f32)) (n : ℕ) (hn : n < 24) (r : Fin 8) (l : Fin 128) :
    arg22.view.readCov L (Rect.unit (s := S24x8x128) ![n % 24, 0, 0] S1x8x128.size (h_inb n)).toLoadRect (ix3 0 r l)
      = View.canon L (ix3 ⟨n, hn⟩ r l) := by
  rw [View.readCov_eq_canon']
  exact congrArg _ (emb_head n hn r l)

/-- A head's running maxima after a grid point that goes on from `xs1`. -/
theorem hs_le (h : ℕ → FVec Ideal S256x128 .f32) (n : ℕ) (hn : n < 24) (r : Fin 8) (l : Fin 128) (B : EReal) :
    View.canon (build (hP (F := Ideal) arg22 harg22 xs1 h) 24) (ix3 ⟨n, hn⟩ r l) ≤ B
      ↔ xs1 (ix3 ⟨n, hn⟩ r l) ≤ B ∧ ∀ g : Fin 32, mag (h n (ix2 ⟨g.val * 8 + r.val, by omega⟩ l)) ≤ B := by
  have e : View.canon (build (hP (F := Ideal) arg22 harg22 xs1 h) 24) (ix3 ⟨n, hn⟩ r l)
      = k0_pay882 (F := Ideal) (h n) (View.readAt (Elt Ideal) arg22.view
          (Rect.unit (s := S24x8x128) ![n % 24, 0, 0] S1x8x128.size (h_inb n)).toLoadRect (harg22.unread xs1)) (ix3 0 r l) := by
    refine canon_build _ 24 _ _ ⟨n, hn, ?_⟩ ?_
    · refine (Rect.mem_set_unit (inb := h_inb n)).2 fun a => ?_
      fin_cases a
      · show n % 24 ≤ n ∧ n < n % 24 + 1
        omega
      · show 0 ≤ r.val ∧ r.val < 0 + 8
        omega
      · show 0 ≤ l.val ∧ l.val < 0 + 128
        omega
    · intro k hk (x : S1x8x128.Idx) hx
      have h0 : k % 24 + 1 * (x 0).val = n := congrArg Fin.val (congrFun hx 0)
      have h1 : 0 + 1 * (x 1).val = r.val := congrArg Fin.val (congrFun hx 1)
      have h2 : 0 + 1 * (x 2).val = l.val := congrArg Fin.val (congrFun hx 2)
      have hx0 : (x 0).val < 1 := (x 0).isLt
      obtain rfl : k = n := by omega
      have ex : x = ix3 0 r l := by
        funext a
        fin_cases a
        · exact Fin.ext (show (x 0).val = 0 by omega)
        · exact Fin.ext (show (x 1).val = r.val by omega)
        · exact Fin.ext (show (x 2).val = l.val by omega)
      rw [ex]
      rfl
  rw [e, step_le]
  refine and_congr_left' ?_
  rw [read_block arg22 harg22 xs1 _ _ _ _ (ix3 ⟨n, hn⟩ r l) fun a => ?_]
  fin_cases a
  · show n = n % 24 + 0; omega
  · show r.val = 0 + r.val; omega
  · show l.val = 0 + l.val; omega

/-- A head's running maxima after a grid point that starts from zeros. -/
theorem ha_le (h : ℕ → FVec Ideal S256x128 .f32) (n : ℕ) (hn : n < 24) (r : Fin 8) (l : Fin 128) (B : EReal) : ∀ k ≤ 24,
    (View.canon (hA (F := Ideal) arg22 h k) (ix3 ⟨n, hn⟩ r l) ≤ B
      ↔ 0 ≤ B ∧ (n < k → ∀ g : Fin 32, mag (h n (ix2 ⟨g.val * 8 + r.val, by omega⟩ l)) ≤ B)) := by
  intro k
  induction k with
  | zero =>
    intro _
    rw [show View.canon (hA (F := Ideal) arg22 h 0) = k0_pay30 (F := Ideal) from
      View.canon_cons_unit_lit inb_S24x8x128_S24x8x128_0_0_0 _ _ (by intro a; fin_cases a <;> rfl), zeros3_apply]
    exact ⟨fun h => ⟨h, fun h' => absurd h' (by omega)⟩, fun h => h.1⟩
  | succ k ih =>
    intro hk
    have ih := ih (by omega)
    by_cases hkn : n = k
    · subst hkn
      have e : View.canon (hA (F := Ideal) arg22 h (n + 1)) (ix3 ⟨n, hn⟩ r l)
          = k0_pay882 (F := Ideal) (h n) (arg22.view.readCov (hA (F := Ideal) arg22 h n)
              (Rect.unit (s := S24x8x128) ![n % 24, 0, 0] S1x8x128.size (h_inb n)).toLoadRect) (ix3 0 r l) := by
        rw [← emb_head n hn r l]
        exact View.canon_cons_emb (Val := Elt Ideal) ..
      rw [e, step_le, load_head arg22 _ n hn r l, ih]
      exact ⟨fun h => ⟨h.1.1, fun _ => h.2⟩, fun h => ⟨⟨h.1, fun h' => absurd h' (by omega)⟩, h.2 (by omega)⟩⟩
    · have e : View.canon (hA (F := Ideal) arg22 h (k + 1)) (ix3 ⟨n, hn⟩ r l) = View.canon (hA (F := Ideal) arg22 h k) (ix3 ⟨n, hn⟩ r l) := by
        refine View.canon_cons_of_not_mem (Val := Elt Ideal) _ _ fun hm => ?_
        have h0 : k % 24 ≤ n ∧ n < k % 24 + 1 := (Rect.mem_set_unit (inb := h_inb k)).1 hm 0
        omega
      rw [e, ih]
      exact and_congr_right' (by constructor <;> intro h h' <;> exact h (by omega))

/-- What the last grid point stores as the queries' largest entries, -/
theorem q_le (L : List (View.Piece (Elt Ideal) S24x8x128 .f32)) (n : ℕ) (hn : n < 16) (B : EReal) :
    View.canon (build (mP16 (F := Ideal) arg22 L) 16) (ix1 ⟨n, hn⟩) ≤ B
      ↔ ∀ (r : Fin 8) (l : Fin 128), View.canon L (ix3 ⟨n, by omega⟩ r l) ≤ B := by
  have e : View.canon (build (mP16 (F := Ideal) arg22 L) 16) (ix1 ⟨n, hn⟩)
      = k0_pay5 (F := Ideal) (arg22.view.readCov L (Rect.unit (s := S24x8x128) ![n % 24, 0, 0] S1x8x128.size (h_inb n)).toLoadRect) := by
    refine canon_build _ 16 _ _ ⟨n, hn, ?_⟩ ?_
    · refine (Rect.mem_set_unit (inb := s16_inb n)).2 fun a => ?_
      fin_cases a
      show n % 16 ≤ n ∧ n < n % 16 + 1
      omega
    · intro k hk (x : S1.Idx) hx
      have h0 : k % 16 + 1 * (x 0).val = n := congrArg Fin.val (congrFun hx 0)
      have hx0 : (x 0).val < 1 := (x 0).isLt
      obtain rfl : k = n := by omega
      rfl
  rw [e, head_le]
  refine forall_congr' fun r => forall_congr' fun l => ?_
  rw [load_head arg22 L n (by omega) r l]

/-- and as the keys' (`o = 16`) or the values' (`o = 20`). -/
theorem k_le (L : List (View.Piece (Elt Ideal) S24x8x128 .f32)) (o n : ℕ) (hn : n < 4) (ho : o + n < 24) (B : EReal) :
    View.canon (build (mP4 (F := Ideal) arg22 o L) 4) (ix1 ⟨n, hn⟩) ≤ B
      ↔ ∀ (r : Fin 8) (l : Fin 128), View.canon L (ix3 ⟨o + n, ho⟩ r l) ≤ B := by
  have e : View.canon (build (mP4 (F := Ideal) arg22 o L) 4) (ix1 ⟨n, hn⟩)
      = k0_pay5 (F := Ideal) (arg22.view.readCov L (Rect.unit (s := S24x8x128) ![(o + n) % 24, 0, 0] S1x8x128.size (h_inb (o + n))).toLoadRect) := by
    refine canon_build _ 4 _ _ ⟨n, hn, ?_⟩ ?_
    · refine (Rect.mem_set_unit (inb := s4_inb n)).2 fun a => ?_
      fin_cases a
      show n % 4 ≤ n ∧ n < n % 4 + 1
      omega
    · intro k hk (x : S1.Idx) hx
      have h0 : k % 4 + 1 * (x 0).val = n := congrArg Fin.val (congrFun hx 0)
      have hx0 : (x 0).val < 1 := (x 0).isLt
      obtain rfl : k = n := by omega
      rfl
  rw [e, head_le]
  refine forall_congr' fun r => forall_congr' fun l => ?_
  rw [load_head arg22 L (o + n) ho r l]

/-! ## The reference's maxima -/

/-- The reference's maximum of normed rows is bounded exactly when all magnitudes are. -/
theorem ref_xmax_le (X : FVec Ideal QkvRefIdeal.S4608x4096 .bf16) (G : FVec Ideal QkvRefIdeal.S1x4096 .f32) (B : EReal) :
    QkvRefIdeal.Gen.k0_pay8 (F := Ideal) X G ≤ B
      ↔ ∀ (r : Fin 4608) (k : Fin 4096), mag (QkvRefIdeal.Gen.k0_pay6 (F := Ideal) X G (ix2 r k)) ≤ B := by
  have e : QkvRefIdeal.Gen.k0_pay8 (F := Ideal) X G = Finset.univ.fold max (Ideal.ofBits .f32 0xFF800000#32) fun x : Fin 4608 × Fin 4096 =>
      FloatOps.absf (QkvRefIdeal.Gen.k0_pay6 (F := Ideal) X G (ix2 x.1 x.2)) := by
    unfold QkvRefIdeal.Gen.k0_pay8
    generalize QkvRefIdeal.Gen.k0_pay6 (F := Ideal) X G = v
    pointwise []
  rw [e, neg_inf, fold_le]
  exact ⟨fun h r l => h (r, l), fun h x => h x.1 x.2⟩

/-- The same for its queries' maxima, head by head, -/
theorem ref_qmax_le (v : FVec Ideal QkvRefIdeal.S4608x16x128 .f32) (n : Fin 16) (B : EReal) :
    QkvRefIdeal.Gen.k0_pay19 (F := Ideal) v (ix1 n) ≤ B ↔ ∀ (r : Fin 4608) (d : Fin 128), mag (v (ix3 r n d)) ≤ B := by
  have e : QkvRefIdeal.Gen.k0_pay19 (F := Ideal) v (ix1 n) = (Finset.univ.filter fun i => QkvRefIdeal.Gen.reduces_S4608x16x128_S16.drop i = ix1 n).fold max
      (Ideal.ofBits .f32 0xFF800000#32) fun x => FloatOps.absf (v x) := by
    pointwise [QkvRefIdeal.Gen.k0_pay19]
  rw [e, neg_inf, fold_filter_le]
  refine ⟨fun h r d => h (ix3 r n d) (by funext a; fin_cases a; rfl), fun h i hi => ?_⟩
  have hn : i 1 = n := congrFun hi 0
  rw [eq_ix3 i, hn]
  exact h (i 0) (i 2)

/-- and for its values' maxima. -/
theorem ref_vmax_le (v : FVec Ideal QkvRefIdeal.S4608x4x128 .f32) (n : Fin 4) (B : EReal) :
    QkvRefIdeal.Gen.k0_pay2 (F := Ideal) v (ix1 n) ≤ B ↔ ∀ (r : Fin 4608) (d : Fin 128), mag (v (ix3 r n d)) ≤ B := by
  have e : QkvRefIdeal.Gen.k0_pay2 (F := Ideal) v (ix1 n) = (Finset.univ.filter fun i => QkvRefIdeal.Gen.reduces_S4608x4x128_S4.drop i = ix1 n).fold max
      (Ideal.ofBits .f32 0xFF800000#32) fun x => FloatOps.absf (v x) := by
    pointwise [QkvRefIdeal.Gen.k0_pay2]
  rw [e, neg_inf, fold_filter_le]
  refine ⟨fun h r d => h (ix3 r n d) (by funext a; fin_cases a; rfl), fun h i hi => ?_⟩
  have hn : i 1 = n := congrFun hi 0
  rw [eq_ix3 i, hn]
  exact h (i 0) (i 2)

/-- The keys' maxima and codes are the same functions of the rotated keys as the values' of the values. -/
theorem ref_kmax_eq (a b : FVec Ideal QkvRefIdeal.S4608x1x64 .f32) (x : FVec Ideal QkvRefIdeal.S4608x4x128 .f32) (g : FVec Ideal QkvRefIdeal.S128 .f32)
    (y : FVec Ideal QkvRefIdeal.S4608x4x1 .f32) (n : EReal) :
    QkvRefIdeal.Gen.k0_pay1 (F := Ideal) (QkvRefIdeal.Gen.k0_pay21 a b x g y n)
      = QkvRefIdeal.Gen.k0_pay2 (F := Ideal) (QkvRefIdeal.Gen.k0_pay16 a b x g y n) := rfl

/-- The keys' codes are the values' computation on the keys. -/
theorem ref_kcode_eq (a b : FVec Ideal QkvRefIdeal.S4608x1x64 .f32) (x : FVec Ideal QkvRefIdeal.S4608x4x128 .f32) (g : FVec Ideal QkvRefIdeal.S128 .f32)
    (y : FVec Ideal QkvRefIdeal.S4608x4x1 .f32) (n : EReal) (s : FVec Ideal QkvRefIdeal.S4 .f32) :
    QkvRefIdeal.Gen.k0_pay4 (F := Ideal) (QkvRefIdeal.Gen.k0_pay20 a b x g y n s)
      = QkvRefIdeal.Gen.k0_pay5 (F := Ideal) (QkvRefIdeal.Gen.k0_pay16 a b x g y n) s := rfl

end Cert.QkvIdeal.Hand

end
-- ==== Proof.QkvStoresA.lean ====
module

public import proofs.«01_k».proof.Proof.QkvTiles

@[expose] public section

set_option maxRecDepth 16384

noncomputable section

/-! What the first grid point leaves in every buffer, as the families of `QkvTiles`. -/

namespace Cert.QkvIdeal.Hand

open Cert.QkvIdeal Cert.QkvIdeal.Gen Idealize.ShloMosaic Idealize.ShloMosaic.TcCoe Idealize.SL.Sem

variable {F : FTy → Type} [FloatOps F]
variable (m : (ℓ : Loc nD τ sig) → Buf (Elt F) ℓ)

/-- At the first grid point, the block of the normed rows' codes holds the canon of its 256 stores. -/
theorem x_A (c : Dev nD) (t : Fin cfg0.N) (h0 : t.val % 18 = 0) (h1 : ¬t.val % 18 = 17) :
    (outsAt0 m c t.val t.isLt).1 = View.canon (build (xP (ms0_0 t) (hs0_0 t) (ms0_5 t) (hs0_5 t) (ms0_6 t) (hs0_6 t) (iblk m c 0 t) (iblk m c 5 t) (iblk m c 6 t)) 256) := by
  rw [outsAt0_A m c t h0 h1]
  dsimp only
  unfold out0_A_12
  refine (View.read_writes_junk_eq_canon (Val := Elt F) VO0_12 _).trans (congrArg View.canon ?_)
  sl_kernel_rfl

/-- At the first grid point, the block of the queries' codes holds the canon of its 16 stores. -/
theorem q_A (c : Dev nD) (t : Fin cfg0.N) (h0 : t.val % 18 = 0) (h1 : ¬t.val % 18 = 17) :
    (outsAt0 m c t.val t.isLt).2.1 = View.canon (build (qP (ms0_2 t) (hs0_2 t) (iblk m c 2 t) (hvt m c t)) 16) := by
  rw [outsAt0_A m c t h0 h1]
  dsimp only
  unfold out0_A_13
  refine (View.read_writes_junk_eq_canon (Val := Elt F) VO0_13 _).trans (congrArg View.canon ?_)
  sl_kernel_rfl

/-- At the first grid point, the block of the keys' codes holds the canon of its 4 stores. -/
theorem k_A (c : Dev nD) (t : Fin cfg0.N) (h0 : t.val % 18 = 0) (h1 : ¬t.val % 18 = 17) :
    (outsAt0 m c t.val t.isLt).2.2.1 = View.canon (build (kP (ms0_3 t) (hs0_3 t) (iblk m c 3 t) fun n => hvt m c t (16 + n)) 4) := by
  rw [outsAt0_A m c t h0 h1]
  dsimp only
  unfold out0_A_14
  refine (View.read_writes_junk_eq_canon (Val := Elt F) VO0_14 _).trans (congrArg View.canon ?_)
  sl_kernel_rfl

/-- At the first grid point, the block of the values' codes holds the canon of its 4 stores. -/
theorem v_A (c : Dev nD) (t : Fin cfg0.N) (h0 : t.val % 18 = 0) (h1 : ¬t.val % 18 = 17) :
    (outsAt0 m c t.val t.isLt).2.2.2.1 = View.canon (build (kP (ms0_4 t) (hs0_4 t) (iblk m c 4 t) fun n => hvt m c t (20 + n)) 4) := by
  rw [outsAt0_A m c t h0 h1]
  dsimp only
  unfold out0_A_15
  refine (View.read_writes_junk_eq_canon (Val := Elt F) VO0_15 _).trans (congrArg View.canon ?_)
  sl_kernel_rfl

/-- At the first grid point, the scratch of the normed rows' running maxima holds what one store of them leaves. -/
theorem xs_A (c : Dev nD) (t : Fin cfg0.N) (h0 : t.val % 18 = 0) (h1 : ¬t.val % 18 = 17) :
    (outsAt0 m c t.val t.isLt).2.2.2.2.2.2.2.2.1 = View.canon ([⟨Rect.unit (s := S32x128) ![0, 0] S32x128.size inb_S32x128_S32x128_0_0, k0_pay779 (xmt m c t (scM0_0.view.readCov (Val := Elt F) [⟨Rect.unit (s := S32x128) ![0, 0] S32x128.size inb_S32x128_S32x128_0_0, k0_pay29 (F := F)⟩] (Rect.unit (s := S32x128) ![0, 0] S32x128.size inb_S32x128_S32x128_0_0).toLoadRect))⟩, ⟨Rect.unit (s := S32x128) ![0, 0] S32x128.size inb_S32x128_S32x128_0_0, k0_pay29⟩]) := by
  rw [outsAt0_A m c t h0 h1]
  dsimp only
  unfold sout0_A_0
  refine (View.read_writes_junk_eq_canon (Val := Elt F) VS0_0 _).trans (congrArg View.canon ?_)
  sl_kernel_rfl

/-- At the first grid point, the scratch of the heads' running maxima holds the canon of its stores. -/
theorem hs_A (c : Dev nD) (t : Fin cfg0.N) (h0 : t.val % 18 = 0) (h1 : ¬t.val % 18 = 17) :
    (outsAt0 m c t.val t.isLt).2.2.2.2.2.2.2.2.2 = View.canon (hA scM0_1 (hvt m c t) 24) := by
  rw [outsAt0_A m c t h0 h1]
  dsimp only
  unfold sout0_A_1
  refine (View.read_writes_junk_eq_canon (Val := Elt F) VS0_1 _).trans (congrArg View.canon ?_)
  sl_kernel_rfl

end Cert.QkvIdeal.Hand

end
-- ==== Proof.QkvStoresB.lean ====
module

public import proofs.«01_k».proof.Proof.QkvTiles

@[expose] public section

set_option maxRecDepth 16384

noncomputable section

/-! What a grid point in the middle leaves in every buffer, as the families of `QkvTiles`. -/

namespace Cert.QkvIdeal.Hand

open Cert.QkvIdeal Cert.QkvIdeal.Gen Idealize.ShloMosaic Idealize.ShloMosaic.TcCoe Idealize.SL.Sem

variable {F : FTy → Type} [FloatOps F]
variable (m : (ℓ : Loc nD τ sig) → Buf (Elt F) ℓ)

/-- At a grid point in the middle, the block of the normed rows' codes holds the canon of its 256 stores. -/
theorem x_B (c : Dev nD) (t : Fin cfg0.N) (h0 : ¬t.val % 18 = 0) (h1 : ¬t.val % 18 = 17) :
    (outsAt0 m c t.val t.isLt).1 = View.canon (build (xP (ms0_0 t) (hs0_0 t) (ms0_5 t) (hs0_5 t) (ms0_6 t) (hs0_6 t) (iblk m c 0 t) (iblk m c 5 t) (iblk m c 6 t)) 256) := by
  rw [outsAt0_B m c t h0 h1]
  dsimp only
  unfold out0_B_12
  refine (View.read_writes_junk_eq_canon (Val := Elt F) VO0_12 _).trans (congrArg View.canon ?_)
  sl_kernel_rfl

/-- At a grid point in the middle, the block of the queries' codes holds the canon of its 16 stores. -/
theorem q_B (c : Dev nD) (t : Fin cfg0.N) (h0 : ¬t.val % 18 = 0) (h1 : ¬t.val % 18 = 17) :
    (outsAt0 m c t.val t.isLt).2.1 = View.canon (build (qP (ms0_2 t) (hs0_2 t) (iblk m c 2 t) (hvt m c t)) 16) := by
  rw [outsAt0_B m c t h0 h1]
  dsimp only
  unfold out0_B_13
  refine (View.read_writes_junk_eq_canon (Val := Elt F) VO0_13 _).trans (congrArg View.canon ?_)
  sl_kernel_rfl

/-- At a grid point in the middle, the block of the keys' codes holds the canon of its 4 stores. -/
theorem k_B (c : Dev nD) (t : Fin cfg0.N) (h0 : ¬t.val % 18 = 0) (h1 : ¬t.val % 18 = 17) :
    (outsAt0 m c t.val t.isLt).2.2.1 = View.canon (build (kP (ms0_3 t) (hs0_3 t) (iblk m c 3 t) fun n => hvt m c t (16 + n)) 4) := by
  rw [outsAt0_B m c t h0 h1]
  dsimp only
  unfold out0_B_14
  refine (View.read_writes_junk_eq_canon (Val := Elt F) VO0_14 _).trans (congrArg View.canon ?_)
  sl_kernel_rfl

/-- At a grid point in the middle, the block of the values' codes holds the canon of its 4 stores. -/
theorem v_B (c : Dev nD) (t : Fin cfg0.N) (h0 : ¬t.val % 18 = 0) (h1 : ¬t.val % 18 = 17) :
    (outsAt0 m c t.val t.isLt).2.2.2.1 = View.canon (build (kP (ms0_4 t) (hs0_4 t) (iblk m c 4 t) fun n => hvt m c t (20 + n)) 4) := by
  rw [outsAt0_B m c t h0 h1]
  dsimp only
  unfold out0_B_15
  refine (View.read_writes_junk_eq_canon (Val := Elt F) VO0_15 _).trans (congrArg View.canon ?_)
  sl_kernel_rfl

/-- At a grid point in the middle, the scratch of the normed rows' running maxima holds what one store of them leaves. -/
theorem xs_B (c : Dev nD) (t : Fin cfg0.N) (h0 : ¬t.val % 18 = 0) (h1 : ¬t.val % 18 = 17) :
    (outsAt0 m c t.val t.isLt).2.2.2.2.2.2.2.2.1 = View.canon ([⟨Rect.unit (s := S32x128) ![0, 0] S32x128.size inb_S32x128_S32x128_0_0, k0_pay779 (xmt m c t (View.readAt (Elt F) scM0_0.view (Rect.unit (s := S32x128) ![0, 0] S32x128.size inb_S32x128_S32x128_0_0).toLoadRect ((Memref.isWhole_whole _ : scM0_0.IsWhole).unread (outsAt0 m c (t.val - 1) (Nat.lt_of_le_of_lt (Nat.sub_le _ _) t.isLt)).2.2.2.2.2.2.2.2.1)))⟩]) := by
  rw [outsAt0_B m c t h0 h1]
  dsimp only
  unfold sout0_B_0
  refine (View.read_writes_junk_eq_canon (Val := Elt F) VS0_0 _).trans (congrArg View.canon ?_)
  sl_kernel_rfl

/-- At a grid point in the middle, the scratch of the heads' running maxima holds the canon of its stores. -/
theorem hs_B (c : Dev nD) (t : Fin cfg0.N) (h0 : ¬t.val % 18 = 0) (h1 : ¬t.val % 18 = 17) :
    (outsAt0 m c t.val t.isLt).2.2.2.2.2.2.2.2.2 = View.canon (build (hP scM0_1 (Memref.isWhole_whole _) (outsAt0 m c (t.val - 1) (Nat.lt_of_le_of_lt (Nat.sub_le _ _) t.isLt)).2.2.2.2.2.2.2.2.2 (hvt m c t)) 24) := by
  rw [outsAt0_B m c t h0 h1]
  dsimp only
  unfold sout0_B_1
  refine (View.read_writes_junk_eq_canon (Val := Elt F) VS0_1 _).trans (congrArg View.canon ?_)
  sl_kernel_rfl

end Cert.QkvIdeal.Hand

end
-- ==== Proof.QkvStoresC.lean ====
module

public import proofs.«01_k».proof.Proof.QkvTiles

@[expose] public section

set_option maxRecDepth 16384

noncomputable section

/-! What the last grid point leaves in every buffer, as the families of `QkvTiles`. -/

namespace Cert.QkvIdeal.Hand

open Cert.QkvIdeal Cert.QkvIdeal.Gen Idealize.ShloMosaic Idealize.ShloMosaic.TcCoe Idealize.SL.Sem

variable {F : FTy → Type} [FloatOps F]
variable (m : (ℓ : Loc nD τ sig) → Buf (Elt F) ℓ)

/-- At the last grid point, the block of the normed rows' codes holds the canon of its 256 stores. -/
theorem x_C (c : Dev nD) (t : Fin cfg0.N) (h0 : ¬t.val % 18 = 0) (h1 : t.val % 18 = 17) :
    (outsAt0 m c t.val t.isLt).1 = View.canon (build (xP (ms0_0 t) (hs0_0 t) (ms0_5 t) (hs0_5 t) (ms0_6 t) (hs0_6 t) (iblk m c 0 t) (iblk m c 5 t) (iblk m c 6 t)) 256) := by
  rw [outsAt0_C m c t h0 h1]
  dsimp only
  unfold out0_C_12
  refine (View.read_writes_junk_eq_canon (Val := Elt F) VO0_12 _).trans (congrArg View.canon ?_)
  sl_kernel_rfl

/-- At the last grid point, the block of the queries' codes holds the canon of its 16 stores. -/
theorem q_C (c : Dev nD) (t : Fin cfg0.N) (h0 : ¬t.val % 18 = 0) (h1 : t.val % 18 = 17) :
    (outsAt0 m c t.val t.isLt).2.1 = View.canon (build (qP (ms0_2 t) (hs0_2 t) (iblk m c 2 t) (hvt m c t)) 16) := by
  rw [outsAt0_C m c t h0 h1]
  dsimp only
  unfold out0_C_13
  refine (View.read_writes_junk_eq_canon (Val := Elt F) VO0_13 _).trans (congrArg View.canon ?_)
  sl_kernel_rfl

/-- At the last grid point, the block of the keys' codes holds the canon of its 4 stores. -/
theorem k_C (c : Dev nD) (t : Fin cfg0.N) (h0 : ¬t.val % 18 = 0) (h1 : t.val % 18 = 17) :
    (outsAt0 m c t.val t.isLt).2.2.1 = View.canon (build (kP (ms0_3 t) (hs0_3 t) (iblk m c 3 t) fun n => hvt m c t (16 + n)) 4) := by
  rw [outsAt0_C m c t h0 h1]
  dsimp only
  unfold out0_C_14
  refine (View.read_writes_junk_eq_canon (Val := Elt F) VO0_14 _).trans (congrArg View.canon ?_)
  sl_kernel_rfl

/-- At the last grid point, the block of the values' codes holds the canon of its 4 stores. -/
theorem v_C (c : Dev nD) (t : Fin cfg0.N) (h0 : ¬t.val % 18 = 0) (h1 : t.val % 18 = 17) :
    (outsAt0 m c t.val t.isLt).2.2.2.1 = View.canon (build (kP (ms0_4 t) (hs0_4 t) (iblk m c 4 t) fun n => hvt m c t (20 + n)) 4) := by
  rw [outsAt0_C m c t h0 h1]
  dsimp only
  unfold out0_C_15
  refine (View.read_writes_junk_eq_canon (Val := Elt F) VO0_15 _).trans (congrArg View.canon ?_)
  sl_kernel_rfl

/-- At the last grid point, the scratch of the normed rows' running maxima holds what one store of them leaves. -/
theorem xs_C (c : Dev nD) (t : Fin cfg0.N) (h0 : ¬t.val % 18 = 0) (h1 : t.val % 18 = 17) :
    (outsAt0 m c t.val t.isLt).2.2.2.2.2.2.2.2.1 = View.canon ([⟨Rect.unit (s := S32x128) ![0, 0] S32x128.size inb_S32x128_S32x128_0_0, k0_pay779 (xmt m c t (View.readAt (Elt F) scM0_0.view (Rect.unit (s := S32x128) ![0, 0] S32x128.size inb_S32x128_S32x128_0_0).toLoadRect ((Memref.isWhole_whole _ : scM0_0.IsWhole).unread (outsAt0 m c (t.val - 1) (Nat.lt_of_le_of_lt (Nat.sub_le _ _) t.isLt)).2.2.2.2.2.2.2.2.1)))⟩]) := by
  rw [outsAt0_C m c t h0 h1]
  dsimp only
  unfold sout0_C_0
  refine (View.read_writes_junk_eq_canon (Val := Elt F) VS0_0 _).trans (congrArg View.canon ?_)
  sl_kernel_rfl

/-- At the last grid point, the scratch of the heads' running maxima holds the canon of its stores. -/
theorem hs_C (c : Dev nD) (t : Fin cfg0.N) (h0 : ¬t.val % 18 = 0) (h1 : t.val % 18 = 17) :
    (outsAt0 m c t.val t.isLt).2.2.2.2.2.2.2.2.2 = View.canon (build (hP scM0_1 (Memref.isWhole_whole _) (outsAt0 m c (t.val - 1) (Nat.lt_of_le_of_lt (Nat.sub_le _ _) t.isLt)).2.2.2.2.2.2.2.2.2 (hvt m c t)) 24) := by
  rw [outsAt0_C m c t h0 h1]
  dsimp only
  unfold sout0_C_1
  refine (View.read_writes_junk_eq_canon (Val := Elt F) VS0_1 _).trans (congrArg View.canon ?_)
  sl_kernel_rfl

/-- At the last grid point, the largest normed entry is stored from the scratch. -/
theorem xm_C (c : Dev nD) (t : Fin cfg0.N) (h0 : ¬t.val % 18 = 0) (h1 : t.val % 18 = 17) :
    (outsAt0 m c t.val t.isLt).2.2.2.2.1 = View.canon ([⟨Rect.unit (s := S1) ![0] S1.size inb_S1_S1_0, fun _ => k0_pay4 (scM0_0.view.readCov (Val := Elt F) [⟨Rect.unit (s := S32x128) ![0, 0] S32x128.size inb_S32x128_S32x128_0_0, k0_pay779 (xmt m c t (View.readAt (Elt F) scM0_0.view (Rect.unit (s := S32x128) ![0, 0] S32x128.size inb_S32x128_S32x128_0_0).toLoadRect ((Memref.isWhole_whole _ : scM0_0.IsWhole).unread (outsAt0 m c (t.val - 1) (Nat.lt_of_le_of_lt (Nat.sub_le _ _) t.isLt)).2.2.2.2.2.2.2.2.1)))⟩] (Rect.unit (s := S32x128) ![0, 0] S32x128.size inb_S32x128_S32x128_0_0).toLoadRect)⟩]) := by
  rw [outsAt0_C m c t h0 h1]
  dsimp only
  unfold out0_C_16
  refine (View.read_writes_junk_eq_canon (Val := Elt F) VO0_16 _).trans (congrArg View.canon ?_)
  sl_kernel_rfl

/-- At the last grid point, the queries' largest entries are stored from the scratch. -/
theorem qm_C (c : Dev nD) (t : Fin cfg0.N) (h0 : ¬t.val % 18 = 0) (h1 : t.val % 18 = 17) :
    (outsAt0 m c t.val t.isLt).2.2.2.2.2.1 = View.canon (build (mP16 scM0_1 (build (hP scM0_1 (Memref.isWhole_whole _) (outsAt0 m c (t.val - 1) (Nat.lt_of_le_of_lt (Nat.sub_le _ _) t.isLt)).2.2.2.2.2.2.2.2.2 (hvt m c t)) 24)) 16) := by
  rw [outsAt0_C m c t h0 h1]
  dsimp only
  unfold out0_C_17
  refine (View.read_writes_junk_eq_canon (Val := Elt F) VO0_17 _).trans (congrArg View.canon ?_)
  sl_kernel_rfl

/-- At the last grid point, the keys' largest entries are stored from the scratch. -/
theorem km_C (c : Dev nD) (t : Fin cfg0.N) (h0 : ¬t.val % 18 = 0) (h1 : t.val % 18 = 17) :
    (outsAt0 m c t.val t.isLt).2.2.2.2.2.2.1 = View.canon (build (mP4 scM0_1 16 (build (hP scM0_1 (Memref.isWhole_whole _) (outsAt0 m c (t.val - 1) (Nat.lt_of_le_of_lt (Nat.sub_le _ _) t.isLt)).2.2.2.2.2.2.2.2.2 (hvt m c t)) 24)) 4) := by
  rw [outsAt0_C m c t h0 h1]
  dsimp only
  unfold out0_C_18
  refine (View.read_writes_junk_eq_canon (Val := Elt F) VO0_18 _).trans (congrArg View.canon ?_)
  sl_kernel_rfl

/-- At the last grid point, the values' largest entries are stored from the scratch. -/
theorem vm_C (c : Dev nD) (t : Fin cfg0.N) (h0 : ¬t.val % 18 = 0) (h1 : t.val % 18 = 17) :
    (outsAt0 m c t.val t.isLt).2.2.2.2.2.2.2.1 = View.canon (build (mP4 scM0_1 20 (build (hP scM0_1 (Memref.isWhole_whole _) (outsAt0 m c (t.val - 1) (Nat.lt_of_le_of_lt (Nat.sub_le _ _) t.isLt)).2.2.2.2.2.2.2.2.2 (hvt m c t)) 24)) 4) := by
  rw [outsAt0_C m c t h0 h1]
  dsimp only
  unfold out0_C_19
  refine (View.read_writes_junk_eq_canon (Val := Elt F) VO0_19 _).trans (congrArg View.canon ?_)
  sl_kernel_rfl

end Cert.QkvIdeal.Hand

end
-- ==== Proof.QkvCodes.lean ====
module

public import proofs.«01_k».proof.Proof.QkvMaxima
public import proofs.«01_k».proof.Proof.QkvStoresA
public import proofs.«01_k».proof.Proof.QkvStoresB
public import proofs.«01_k».proof.Proof.QkvStoresC

@[expose] public section

set_option maxRecDepth 16384

noncomputable section

namespace Cert.QkvIdeal.Hand

open Cert.QkvIdeal Cert.QkvIdeal.Gen Idealize.ShloMosaic Idealize.ShloMosaic.TcCoe Idealize.SL.Sem
open Idealize.ShloMosaic.Pipeline (Dat)

/-! ## The results as functions of the arguments -/

section Results

variable (X : S4608x4096.Idx → EReal) (G : S1x4096.Idx → EReal) (γ γ' : S1x128.Idx → EReal) (C S : S6x256x64.Idx → EReal) (W : S4096x3072.Idx → EReal)
  (s a : S1.Idx → EReal)

/-- Entry `k` of the normed row `r`. -/
def normAt (r k : ℕ) : EReal := normV (at2 4608 4096 X r) (at2 1 4096 G 0) k

/-- Entry `d` of head `n` of row `r`: a row's angles are those of its batch, `r / 768`, at its place in a part, `r % 256`. -/
def headAt (r n d : ℕ) : EReal :=
  headR (s (ix1 0)) (a (ix1 0)) (at2 4608 4096 X r) (at2 1 4096 G 0) (at2 4096 3072 W) (at2 1 128 γ 0) (at2 1 128 γ' 0)
    (at3 6 256 64 C (r / 768) (r % 256)) (at3 6 256 64 S (r / 768) (r % 256)) n d

/-- The codes of the normed rows. -/
def xCodes (j : S4608x4096.Idx) : EReal := clip (s (ix1 0)) (normAt X G (j 0) (j 1))

/-- The codes of the queries. -/
def qCodes (t : S16.Idx → EReal) (j : S4608x2048.Idx) : EReal :=
  clip (at1 16 t ((j 1 : ℕ) / 128)) (headAt X G γ γ' C S W s a (j 0) ((j 1 : ℕ) / 128) ((j 1 : ℕ) % 128))

/-- The codes of the keys (`o = 16`) or of the values (`o = 20`). -/
def kCodes (o : ℕ) (t : S4.Idx → EReal) (j : S4608x512.Idx) : EReal :=
  clip (at1 4 t ((j 1 : ℕ) / 128)) (headAt X G γ γ' C S W s a (j 0) (o + (j 1 : ℕ) / 128) ((j 1 : ℕ) % 128))

/-- The largest magnitude of the normed rows. -/
def xMax : EReal := ⨆ (r : Fin 4608) (k : Fin 4096), mag (normAt X G r k)

/-- The largest magnitude of head `n`. -/
def hMax (n : ℕ) : EReal := ⨆ (r : Fin 4608) (d : Fin 128), mag (headAt X G γ γ' C S W s a r n d)

/-- The largest magnitude of the normed rows is bounded exactly when all are. -/
theorem xMax_le (B : EReal) : xMax X G ≤ B ↔ ∀ (r : Fin 4608) (k : Fin 4096), mag (normAt X G r k) ≤ B := by
  simp only [xMax, iSup_le_iff]

/-- The largest magnitude of a head is bounded exactly when all are. -/
theorem hMax_le (n : ℕ) (B : EReal) :
    hMax X G γ γ' C S W s a n ≤ B ↔ ∀ (r : Fin 4608) (d : Fin 128), mag (headAt X G γ γ' C S W s a r n d) ≤ B := by
  simp only [hMax, iSup_le_iff]

end Results

variable (m : (ℓ : Loc nD τ sig) → Buf (Elt Ideal) ℓ)

/-- Which block of each array a grid point has. -/
theorem idx : ∀ t : Fin cfg0.N, (win0_0.index t = ![0] ∧ win0_1.index t = ![0] ∧ win0_2.index t = ![0] ∧ win0_3.index t = ![0]
    ∧ win0_4.index t = ![0] ∧ win0_5.index t = ![t.val, 0] ∧ win0_6.index t = ![0, 0] ∧ win0_7.index t = ![0, 0] ∧ win0_8.index t = ![0, 0]
    ∧ win0_9.index t = ![t.val / 3, 0, 0] ∧ win0_10.index t = ![t.val / 3, 0, 0] ∧ win0_11.index t = ![0, 0])
    ∧ win0_12.index t = ![t.val, 0] ∧ win0_13.index t = ![t.val, 0] ∧ win0_14.index t = ![t.val, 0] ∧ win0_15.index t = ![t.val, 0]
    ∧ win0_16.index t = ![0] ∧ win0_17.index t = ![0] ∧ win0_18.index t = ![0] ∧ win0_19.index t = ![0] :=
  (by decide +kernel : ∀ t : Fin grid0.N, _)

/-! ## What a grid point has of the arguments -/

/-- Every grid point has the whole scale of the normed rows, -/
theorem whole0 (c : Dev nD) (t : Fin cfg0.N) : iblk m c 0 t = m (c.tc.loc main_arg7) := by
  funext i; blk_ext [iblk, V, idx t]

/-- the scale of the weights, -/
theorem whole1 (c : Dev nD) (t : Fin cfg0.N) : iblk m c 1 t = m (c.tc.loc main_arg8) := by
  funext i; blk_ext [iblk, V, idx t]

/-- the scales of the queries, -/
theorem whole2 (c : Dev nD) (t : Fin cfg0.N) : iblk m c 2 t = m (c.tc.loc main_arg9) := by
  funext i; blk_ext [iblk, V, idx t]

/-- of the keys, -/
theorem whole3 (c : Dev nD) (t : Fin cfg0.N) : iblk m c 3 t = m (c.tc.loc main_arg10) := by
  funext i; blk_ext [iblk, V, idx t]

/-- and of the values, -/
theorem whole4 (c : Dev nD) (t : Fin cfg0.N) : iblk m c 4 t = m (c.tc.loc main_arg11) := by
  funext i; blk_ext [iblk, V, idx t]

/-- the gains of the rows, -/
theorem whole6 (c : Dev nD) (t : Fin cfg0.N) : iblk m c 6 t = m (c.tc.loc main_arg1) := by
  funext i; blk_ext [iblk, V, idx t]

/-- of the queries, -/
theorem whole7 (c : Dev nD) (t : Fin cfg0.N) : iblk m c 7 t = m (c.tc.loc main_arg2) := by
  funext i; blk_ext [iblk, V, idx t]

/-- and of the keys, -/
theorem whole8 (c : Dev nD) (t : Fin cfg0.N) : iblk m c 8 t = m (c.tc.loc main_arg3) := by
  funext i; blk_ext [iblk, V, idx t]

/-- and the weights. -/
theorem whole11 (c : Dev nD) (t : Fin cfg0.N) : iblk m c 11 t = m (c.tc.loc main_arg6) := by
  funext i; blk_ext [iblk, V, idx t]

/-- Grid point `t` has 256 rows of `x`, -/
theorem blk5 (c : Dev nD) (t : Fin cfg0.N) (i : S256x4096.Idx) (j : S4608x4096.Idx)
    (h0 : (j 0 : ℕ) = t.val * 256 + i 0) (h1 : (j 1 : ℕ) = i 1) : iblk m c 5 t i = m (c.tc.loc main_arg0) j := by
  blk_ext [iblk, V, idx t]

/-- and the cosines and the sines of the batch of these rows. -/
theorem blk9 (c : Dev nD) (t : Fin cfg0.N) (i : S1x256x64.Idx) (j : S6x256x64.Idx)
    (h0 : (j 0 : ℕ) = t.val / 3 + i 0) (h1 : (j 1 : ℕ) = i 1) (h2 : (j 2 : ℕ) = i 2) : iblk m c 9 t i = m (c.tc.loc main_arg4) j := by
  blk_ext [iblk, V, idx t]

/-- The same for the sines. -/
theorem blk10 (c : Dev nD) (t : Fin cfg0.N) (i : S1x256x64.Idx) (j : S6x256x64.Idx)
    (h0 : (j 0 : ℕ) = t.val / 3 + i 0) (h1 : (j 1 : ℕ) = i 1) (h2 : (j 2 : ℕ) = i 2) : iblk m c 10 t i = m (c.tc.loc main_arg5) j := by
  blk_ext [iblk, V, idx t]

/-- There are 18 grid points. -/
theorem points (t : Fin cfg0.N) : t.val < 18 := lt_of_lt_of_eq t.isLt (show cfg0.N = 18 from N_0)

/-- Row `y` of a grid point's block of `x` is a row of `x`. -/
theorem row5 (c : Dev nD) (t : Fin cfg0.N) (y : ℕ) (hy : y < 256) :
    at2 256 4096 (iblk m c 5 t) y = at2 4608 4096 (m (c.tc.loc main_arg0)) (t.val * 256 + y) := by
  have ht := points t
  funext k
  by_cases hk : k < 4096
  · rw [← at2_of (a := 4608) (b := 4096) (m (c.tc.loc main_arg0)) (show t.val * 256 + y < 4608 by omega) hk, ← at2_of (a := 256) (b := 4096) (iblk m c 5 t) hy hk]
    exact blk5 m c t _ _ rfl rfl
  · rw [at2, at2, dif_neg (by omega), dif_neg (by omega)]

/-- Row `y` of its cosines is the row of the table for that row of `x`; -/
theorem row9 (c : Dev nD) (t : Fin cfg0.N) (y : ℕ) (hy : y < 256) :
    at3 1 256 64 (iblk m c 9 t) 0 y = at3 6 256 64 (m (c.tc.loc main_arg4)) ((t.val * 256 + y) / 768) ((t.val * 256 + y) % 256) := by
  have ht := points t
  have e0 : (t.val * 256 + y) / 768 = t.val / 3 := by omega
  have e1 : (t.val * 256 + y) % 256 = y := by omega
  rw [e0, e1]
  funext k
  by_cases hk : k < 64
  · rw [← at3_of (a := 6) (b := 256) (c := 64) (m (c.tc.loc main_arg4)) (show t.val / 3 < 6 by omega) hy hk,
      ← at3_of (a := 1) (b := 256) (c := 64) (iblk m c 9 t) (show 0 < 1 by omega) hy hk]
    exact blk9 m c t _ _ rfl rfl rfl
  · rw [at3, at3, dif_neg (by omega), dif_neg (by omega)]

/-- so is row `y` of its sines. -/
theorem row10 (c : Dev nD) (t : Fin cfg0.N) (y : ℕ) (hy : y < 256) :
    at3 1 256 64 (iblk m c 10 t) 0 y = at3 6 256 64 (m (c.tc.loc main_arg5)) ((t.val * 256 + y) / 768) ((t.val * 256 + y) % 256) := by
  have ht := points t
  have e0 : (t.val * 256 + y) / 768 = t.val / 3 := by omega
  have e1 : (t.val * 256 + y) % 256 = y := by omega
  rw [e0, e1]
  funext k
  by_cases hk : k < 64
  · rw [← at3_of (a := 6) (b := 256) (c := 64) (m (c.tc.loc main_arg5)) (show t.val / 3 < 6 by omega) hy hk,
      ← at3_of (a := 1) (b := 256) (c := 64) (iblk m c 10 t) (show 0 < 1 by omega) hy hk]
    exact blk10 m c t _ _ rfl rfl rfl
  · rw [at3, at3, dif_neg (by omega), dif_neg (by omega)]

/-- The normed rows and the heads of the kernel's arguments. -/
abbrev nrm (c : Dev nD) (r k : ℕ) : EReal := normAt (m (c.tc.loc main_arg0)) (m (c.tc.loc main_arg1)) r k

/-- Entry `d` of head `n` of row `r`, of the kernel's arguments. -/
abbrev hed (c : Dev nD) (r n d : ℕ) : EReal := headAt (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) r n d

/-- The heads at grid point `t` are those of its rows. -/
theorem hvt_apply (c : Dev nD) (t : Fin cfg0.N) (n : ℕ) (hn : n < 24) (y : Fin 256) (d : Fin 128) :
    hvt m c t n (ix2 y d) = hed m c (t.val * 256 + y) n d := by
  refine (hv_apply _ _ _ _ _ _ _ _ _ _ _ _ _ _ _ _ _ _ _ _ _ _ _ _ _ _ _ _ n hn y d).trans ?_
  rw [row5 m c t y y.isLt, row9 m c t y y.isLt, row10 m c t y y.isLt, whole0, whole1, whole6, whole7, whole8, whole11]
  rfl

/-! ## The codes -/

/-- A grid point is the first, the last or between. -/
theorem cases (t : Fin cfg0.N) : (t.val % 18 = 0 ∧ ¬ t.val % 18 = 17) ∨ (¬ t.val % 18 = 0 ∧ ¬ t.val % 18 = 17) ∨ (¬ t.val % 18 = 0 ∧ t.val % 18 = 17) := by
  omega

/-- What grid point `t` stores as codes of normed rows. -/
theorem x_point (c : Dev nD) (t : Fin cfg0.N) (y : S256x4096.Idx) (j : S4608x4096.Idx) (e0 : (j 0 : ℕ) = t.val * 256 + y 0) (e1 : (j 1 : ℕ) = y 1) :
    (outsAt0 m c t.val t.isLt).1 y = xCodes (m (c.tc.loc main_arg0)) (m (c.tc.loc main_arg1)) (m (c.tc.loc main_arg7)) j := by
  have e : (outsAt0 m c t.val t.isLt).1 = View.canon (build (xP (F := Ideal) (ms0_0 t) (hs0_0 t) (ms0_5 t) (hs0_5 t) (ms0_6 t) (hs0_6 t)
      (iblk m c 0 t) (iblk m c 5 t) (iblk m c 6 t)) 256) := by
    rcases cases t with ⟨h0, h1⟩ | ⟨h0, h1⟩ | ⟨h0, h1⟩
    · exact x_A m c t h0 h1
    · exact x_B m c t h0 h1
    · exact x_C m c t h0 h1
  rw [e, eq_ix2 y]
  refine (x_canon _ _ _ _ _ _ _ _ _ (y 0) (y 1)).trans ?_
  rw [row5 m c t (y 0) (y 0).isLt, whole0, whole6, xCodes, e0, e1]
  rfl

/-- What it stores as codes of the queries. -/
theorem q_point (c : Dev nD) (t : Fin cfg0.N) (y : S256x2048.Idx) (j : S4608x2048.Idx) (e0 : (j 0 : ℕ) = t.val * 256 + y 0) (e1 : (j 1 : ℕ) = y 1) :
    (outsAt0 m c t.val t.isLt).2.1 y = qCodes (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) j := by
  have e : (outsAt0 m c t.val t.isLt).2.1 = View.canon (build (qP (F := Ideal) (ms0_2 t) (hs0_2 t) (iblk m c 2 t) (hvt m c t)) 16) := by
    rcases cases t with ⟨h0, h1⟩ | ⟨h0, h1⟩ | ⟨h0, h1⟩
    · exact q_A m c t h0 h1
    · exact q_B m c t h0 h1
    · exact q_C m c t h0 h1
  rw [e, eq_ix2 y]
  refine (q_canon _ _ _ _ (fun n y d => hed m c (t.val * 256 + y) (n) d) (fun n hn y d => hvt_apply m c t n hn y d) (y 0) (y 1)).trans ?_
  rw [whole2, qCodes, e0, e1]

/-- What it stores as codes of the keys. -/
theorem k_point (c : Dev nD) (t : Fin cfg0.N) (y : S256x512.Idx) (j : S4608x512.Idx) (e0 : (j 0 : ℕ) = t.val * 256 + y 0) (e1 : (j 1 : ℕ) = y 1) :
    (outsAt0 m c t.val t.isLt).2.2.1 y = kCodes (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) 16 (m (c.tc.loc main_arg10)) j := by
  have e : (outsAt0 m c t.val t.isLt).2.2.1 = View.canon (build (kP (F := Ideal) (ms0_3 t) (hs0_3 t) (iblk m c 3 t) fun n => hvt m c t (16 + n)) 4) := by
    rcases cases t with ⟨h0, h1⟩ | ⟨h0, h1⟩ | ⟨h0, h1⟩
    · exact k_A m c t h0 h1
    · exact k_B m c t h0 h1
    · exact k_C m c t h0 h1
  rw [e, eq_ix2 y]
  refine (k_canon _ _ _ _ (fun n y d => hed m c (t.val * 256 + y) (16 + n) d) (fun n hn y d => hvt_apply m c t (16 + n) (by omega) y d) (y 0) (y 1)).trans ?_
  rw [whole3, kCodes, e0, e1]

/-- What it stores as codes of the values. -/
theorem v_point (c : Dev nD) (t : Fin cfg0.N) (y : S256x512.Idx) (j : S4608x512.Idx) (e0 : (j 0 : ℕ) = t.val * 256 + y 0) (e1 : (j 1 : ℕ) = y 1) :
    (outsAt0 m c t.val t.isLt).2.2.2.1 y = kCodes (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) 20 (m (c.tc.loc main_arg11)) j := by
  have e : (outsAt0 m c t.val t.isLt).2.2.2.1 = View.canon (build (kP (F := Ideal) (ms0_4 t) (hs0_4 t) (iblk m c 4 t) fun n => hvt m c t (20 + n)) 4) := by
    rcases cases t with ⟨h0, h1⟩ | ⟨h0, h1⟩ | ⟨h0, h1⟩
    · exact v_A m c t h0 h1
    · exact v_B m c t h0 h1
    · exact v_C m c t h0 h1
  rw [e, eq_ix2 y]
  refine (k_canon _ _ _ _ (fun n y d => hed m c (t.val * 256 + y) (20 + n) d) (fun n hn y d => hvt_apply m c t (20 + n) (by omega) y d) (y 0) (y 1)).trans ?_
  rw [whole4, kCodes, e0, e1]

/-- The array of codes of the normed rows after the run. -/
theorem x_final (c : Dev nD) : (dats m 0 c).arrAt 12 cfg0.N = xCodes (m (c.tc.loc main_arg0)) (m (c.tc.loc main_arg1)) (m (c.tc.loc main_arg7)) := by
  refine (dats m 0 c).arrAt_eq_of_covers 12 _ (by decide +kernel) fun t _ y => ?_
  blk_simp
  have e0 : ((((cfg0.win 12).blk t).view.emb y) 0 : ℕ) = t.val * 256 + y 0 := by blk_simp [idx t]
  have e1 : ((((cfg0.win 12).blk t).view.emb y) 1 : ℕ) = y 1 := by blk_simp [idx t]
  rw [after0_12]
  exact x_point m c t y _ e0 e1

/-- The array of codes of the queries after the run. -/
theorem q_final (c : Dev nD) : (dats m 0 c).arrAt 13 cfg0.N = qCodes (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) := by
  refine (dats m 0 c).arrAt_eq_of_covers 13 _ (by decide +kernel) fun t _ y => ?_
  blk_simp
  have e0 : ((((cfg0.win 13).blk t).view.emb y) 0 : ℕ) = t.val * 256 + y 0 := by blk_simp [idx t]
  have e1 : ((((cfg0.win 13).blk t).view.emb y) 1 : ℕ) = y 1 := by blk_simp [idx t]
  rw [after0_13]
  exact q_point m c t y _ e0 e1

/-- The array of codes of the keys after the run. -/
theorem k_final (c : Dev nD) : (dats m 0 c).arrAt 14 cfg0.N = kCodes (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) 16 (m (c.tc.loc main_arg10)) := by
  refine (dats m 0 c).arrAt_eq_of_covers 14 _ (by decide +kernel) fun t _ y => ?_
  blk_simp
  have e0 : ((((cfg0.win 14).blk t).view.emb y) 0 : ℕ) = t.val * 256 + y 0 := by blk_simp [idx t]
  have e1 : ((((cfg0.win 14).blk t).view.emb y) 1 : ℕ) = y 1 := by blk_simp [idx t]
  rw [after0_14]
  exact k_point m c t y _ e0 e1

/-- The array of codes of the values after the run. -/
theorem v_final (c : Dev nD) : (dats m 0 c).arrAt 15 cfg0.N = kCodes (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) 20 (m (c.tc.loc main_arg11)) := by
  refine (dats m 0 c).arrAt_eq_of_covers 15 _ (by decide +kernel) fun t _ y => ?_
  blk_simp
  have e0 : ((((cfg0.win 15).blk t).view.emb y) 0 : ℕ) = t.val * 256 + y 0 := by blk_simp [idx t]
  have e1 : ((((cfg0.win 15).blk t).view.emb y) 1 : ℕ) = y 1 := by blk_simp [idx t]
  rw [after0_15]
  exact v_point m c t y _ e0 e1

end Cert.QkvIdeal.Hand

end
-- ==== Proof.QkvKernel.lean ====
module

public import proofs.«01_k».proof.Proof.QkvCodes

@[expose] public section

set_option maxRecDepth 16384

noncomputable section

namespace Cert.QkvIdeal.Hand

open Cert.QkvIdeal Cert.QkvIdeal.Gen Idealize.ShloMosaic Idealize.ShloMosaic.TcCoe Idealize.SL.Sem
open Idealize.ShloMosaic.Pipeline (Dat)

variable (m : (ℓ : Loc nD τ sig) → Buf (Elt Ideal) ℓ)

/-- The whole scratch starts at the origin. -/
theorem zero2 : ∀ a : Fin S32x128.rank, (![0, 0] : Fin 2 → ℕ) a = 0 := by intro a; fin_cases a <;> rfl

/-- Its entries are its own. -/
theorem whole_emb (y : S32x128.Idx) : (Rect.unit (s := S32x128) ![0, 0] S32x128.size inb_S32x128_S32x128_0_0).toLoadRect.idx y = y := by
  funext a
  fin_cases a <;> apply Fin.ext
  · show 0 + 1 * (y 0).val = (y 0).val; omega
  · show 0 + 1 * (y 1).val = (y 1).val; omega

/-- A scratch read whole after a store of the whole of it. -/
theorem read_back (L : List (View.Piece (Elt Ideal) S32x128 .f32)) (y : S32x128.Idx) :
    scM0_0.view.readCov L (Rect.unit (s := S32x128) ![0, 0] S32x128.size inb_S32x128_S32x128_0_0).toLoadRect y = View.canon L y := by
  rw [View.readCov_eq_canon']
  exact congrArg _ (whole_emb y)

/-- After a store of the whole, the scratch holds what was stored. -/
theorem canon_whole (v : FVec Ideal S32x128 .f32) (L : List (View.Piece (Elt Ideal) S32x128 .f32)) :
    View.canon (⟨Rect.unit (s := S32x128) ![0, 0] S32x128.size inb_S32x128_S32x128_0_0, v⟩ :: L) = v :=
  View.canon_cons_unit_lit inb_S32x128_S32x128_0_0 _ _ zero2

/-- The running maximum in entry `(u, l)`, after a point that goes on from `a`. -/
theorem xmt_le (c : Dev nD) (t : Fin cfg0.N) (a : FVec Ideal S32x128 .f32) (u : Fin 32) (l : Fin 128) (B : EReal) :
    k0_pay779 (F := Ideal) (xmt m c t a) (ix2 u l) ≤ B
      ↔ a (ix2 u l) ≤ B ∧ ∀ k < 256, mag (nrm m c (t.val * 256 + (32 * (k / 32) + u)) (128 * (k % 32) + l)) ≤ B := by
  rw [same_apply]
  refine (xmax_le _ _ _ _ _ _ a u l B 256 le_rfl).trans (and_congr_right' (forall₂_congr fun k hk => ?_))
  rw [row5 m c t _ (by omega), whole6]
  rfl

/-- The first grid point starts the running maxima of normed rows from zeros; -/
theorem xs_first (c : Dev nD) (t : Fin cfg0.N) (h0 : t.val % 18 = 0) (u : Fin 32) (l : Fin 128) (B : EReal) :
    (outsAt0 m c t.val t.isLt).2.2.2.2.2.2.2.2.1 (ix2 u l) ≤ B
      ↔ 0 ≤ B ∧ ∀ k < 256, mag (nrm m c (t.val * 256 + (32 * (k / 32) + u)) (128 * (k % 32) + l)) ≤ B := by
  rw [xs_A m c t h0 (by omega), canon_whole]
  refine (xmt_le m c t _ u l B).trans (and_congr_left' ?_)
  rw [read_back, canon_whole, zeros_apply]

/-- the others go on from what the one before left. -/
theorem xs_next (c : Dev nD) (t : Fin cfg0.N) (h0 : ¬ t.val % 18 = 0) (u : Fin 32) (l : Fin 128) (B : EReal) :
    (outsAt0 m c t.val t.isLt).2.2.2.2.2.2.2.2.1 (ix2 u l) ≤ B
      ↔ (outsAt0 m c (t.val - 1) (Nat.lt_of_le_of_lt (Nat.sub_le _ _) t.isLt)).2.2.2.2.2.2.2.2.1 (ix2 u l) ≤ B
        ∧ ∀ k < 256, mag (nrm m c (t.val * 256 + (32 * (k / 32) + u)) (128 * (k % 32) + l)) ≤ B := by
  have e : (outsAt0 m c t.val t.isLt).2.2.2.2.2.2.2.2.1 = View.canon ([⟨Rect.unit (s := S32x128) ![0, 0] S32x128.size inb_S32x128_S32x128_0_0,
      k0_pay779 (xmt m c t (View.readAt (Elt Ideal) scM0_0.view (Rect.unit (s := S32x128) ![0, 0] S32x128.size inb_S32x128_S32x128_0_0).toLoadRect
        ((Memref.isWhole_whole _ : scM0_0.IsWhole).unread (outsAt0 m c (t.val - 1) (Nat.lt_of_le_of_lt (Nat.sub_le _ _) t.isLt)).2.2.2.2.2.2.2.2.1)))⟩]) := by
    by_cases h1 : t.val % 18 = 17
    · exact xs_C m c t h0 h1
    · exact xs_B m c t h0 h1
  rw [e, canon_whole]
  refine (xmt_le m c t _ u l B).trans (and_congr_left' ?_)
  rw [read_block scM0_0 (Memref.isWhole_whole _) _ _ _ _ _ (ix2 u l) fun a => ?_]
  fin_cases a
  · show u.val = 0 + u.val; omega
  · show l.val = 0 + l.val; omega

/-- Entry `(u, l)` of the running maxima of normed rows after point `n`: the largest magnitude, of the entries so far that fall on it. -/
theorem xs_le (c : Dev nD) (u : Fin 32) (l : Fin 128) (B : EReal) : ∀ (n : ℕ) (hn : n < cfg0.N),
    (outsAt0 m c n hn).2.2.2.2.2.2.2.2.1 (ix2 u l) ≤ B
      ↔ 0 ≤ B ∧ ∀ t ≤ n, ∀ k < 256, mag (nrm m c (t * 256 + (32 * (k / 32) + u)) (128 * (k % 32) + l)) ≤ B := by
  intro n
  induction n with
  | zero =>
    intro hn
    refine (xs_first m c ⟨0, hn⟩ rfl u l B).trans (and_congr_right' ⟨fun h t ht => ?_, fun h => h 0 le_rfl⟩)
    obtain rfl : t = 0 := by omega
    exact h
  | succ n ih =>
    intro hn
    have hN : n + 1 < 18 := points ⟨n + 1, hn⟩
    refine (xs_next m c ⟨n + 1, hn⟩ (by show ¬ (n + 1) % 18 = 0; omega) u l B).trans ?_
    have e := ih (by omega)
    constructor
    · rintro ⟨h1, h2⟩
      refine ⟨(e.1 h1).1, fun t ht => ?_⟩
      rcases Nat.lt_or_ge n t with h | h
      · obtain rfl : t = n + 1 := by omega
        exact h2
      · exact (e.1 h1).2 t h
    · rintro ⟨h1, h2⟩
      exact ⟨e.2 ⟨h1, fun t ht => h2 t (by omega)⟩, h2 (n + 1) le_rfl⟩

/-- The first grid point starts the heads' running maxima from zeros; -/
theorem hs_first (c : Dev nD) (t : Fin cfg0.N) (h0 : t.val % 18 = 0) (n : ℕ) (hn : n < 24) (r : Fin 8) (l : Fin 128) (B : EReal) :
    (outsAt0 m c t.val t.isLt).2.2.2.2.2.2.2.2.2 (ix3 ⟨n, hn⟩ r l) ≤ B
      ↔ 0 ≤ B ∧ ∀ g : Fin 32, mag (hed m c (t.val * 256 + (g.val * 8 + r.val)) n l) ≤ B := by
  rw [hs_A m c t h0 (by omega)]
  refine (ha_le scM0_1 (hvt m c t) n hn r l B 24 le_rfl).trans (and_congr_right' ⟨fun h g => ?_, fun h _ g => ?_⟩)
  · exact (hvt_apply m c t n hn ⟨g.val * 8 + r.val, by omega⟩ l) ▸ h hn g
  · rw [hvt_apply m c t n hn ⟨g.val * 8 + r.val, by omega⟩ l]; exact h g

/-- the others go on from what the one before left. -/
theorem hs_next (c : Dev nD) (t : Fin cfg0.N) (h0 : ¬ t.val % 18 = 0) (n : ℕ) (hn : n < 24) (r : Fin 8) (l : Fin 128) (B : EReal) :
    (outsAt0 m c t.val t.isLt).2.2.2.2.2.2.2.2.2 (ix3 ⟨n, hn⟩ r l) ≤ B
      ↔ (outsAt0 m c (t.val - 1) (Nat.lt_of_le_of_lt (Nat.sub_le _ _) t.isLt)).2.2.2.2.2.2.2.2.2 (ix3 ⟨n, hn⟩ r l) ≤ B
        ∧ ∀ g : Fin 32, mag (hed m c (t.val * 256 + (g.val * 8 + r.val)) n l) ≤ B := by
  have e : (outsAt0 m c t.val t.isLt).2.2.2.2.2.2.2.2.2 = View.canon (build (hP scM0_1 (Memref.isWhole_whole _) (outsAt0 m c (t.val - 1) (Nat.lt_of_le_of_lt (Nat.sub_le _ _) t.isLt)).2.2.2.2.2.2.2.2.2 (hvt m c t)) 24) := by
    by_cases h1 : t.val % 18 = 17
    · exact hs_C m c t h0 h1
    · exact hs_B m c t h0 h1
  rw [e]
  refine (hs_le scM0_1 (Memref.isWhole_whole _) _ (hvt m c t) n hn r l B).trans (and_congr_right' (forall_congr' fun g => ?_))
  rw [hvt_apply m c t n hn ⟨g.val * 8 + r.val, by omega⟩ l]

/-- Entry `(n, r, l)` of the heads' running maxima after point `p`: the largest magnitude, of the entries so far that fall on it. -/
theorem hs_all (c : Dev nD) (n : ℕ) (hn : n < 24) (r : Fin 8) (l : Fin 128) (B : EReal) : ∀ (p : ℕ) (hp : p < cfg0.N),
    (outsAt0 m c p hp).2.2.2.2.2.2.2.2.2 (ix3 ⟨n, hn⟩ r l) ≤ B
      ↔ 0 ≤ B ∧ ∀ t ≤ p, ∀ g : Fin 32, mag (hed m c (t * 256 + (g.val * 8 + r.val)) n l) ≤ B := by
  intro p
  induction p with
  | zero =>
    intro hp
    refine (hs_first m c ⟨0, hp⟩ rfl n hn r l B).trans (and_congr_right' ⟨fun h t ht => ?_, fun h => h 0 le_rfl⟩)
    obtain rfl : t = 0 := by omega
    exact h
  | succ p ih =>
    intro hp
    have hN : p + 1 < 18 := points ⟨p + 1, hp⟩
    refine (hs_next m c ⟨p + 1, hp⟩ (by show ¬ (p + 1) % 18 = 0; omega) n hn r l B).trans ?_
    have e := ih (by omega)
    constructor
    · rintro ⟨h1, h2⟩
      refine ⟨(e.1 h1).1, fun t ht => ?_⟩
      rcases Nat.lt_or_ge p t with h | h
      · obtain rfl : t = p + 1 := by omega
        exact h2
      · exact (e.1 h1).2 t h
    · rintro ⟨h1, h2⟩
      exact ⟨e.2 ⟨h1, fun t ht => h2 t (by omega)⟩, h2 (p + 1) le_rfl⟩

/-! ## The maxima -/

/-- Every row and column falls on one entry of the running maxima at one grid point. -/
theorem x_cover (f : ℕ → ℕ → EReal) (B : EReal) :
    (∀ (u : Fin 32) (l : Fin 128), 0 ≤ B ∧ ∀ t ≤ 17, ∀ k < 256, mag (f (t * 256 + (32 * (k / 32) + u)) (128 * (k % 32) + l)) ≤ B)
      ↔ ∀ (r : Fin 4608) (k : Fin 4096), mag (f r k) ≤ B := by
  constructor
  · intro h r k
    have := (h ⟨r % 32, by omega⟩ ⟨k % 128, by omega⟩).2 (r / 256) (by omega) (32 * (r % 256 / 32) + k / 128) (by omega)
    simp only at this
    rwa [show r.val / 256 * 256 + (32 * ((32 * (r.val % 256 / 32) + k.val / 128) / 32) + r.val % 32) = r.val by omega,
      show 128 * ((32 * (r.val % 256 / 32) + k.val / 128) % 32) + k.val % 128 = k.val by omega] at this
  · intro h u l
    exact ⟨(mag_nonneg _).trans (h 0 0), fun t ht k hk => h ⟨_, by omega⟩ ⟨_, by omega⟩⟩

/-- The same for one head. -/
theorem h_cover (f : ℕ → ℕ → EReal) (B : EReal) :
    (∀ (r : Fin 8) (l : Fin 128), 0 ≤ B ∧ ∀ t ≤ 17, ∀ g : Fin 32, mag (f (t * 256 + (g.val * 8 + r.val)) l) ≤ B)
      ↔ ∀ (r : Fin 4608) (d : Fin 128), mag (f r d) ≤ B := by
  constructor
  · intro h r d
    have := (h ⟨r % 8, by omega⟩ d).2 (r / 256) (by omega) ⟨r % 256 / 8, by omega⟩
    simp only at this
    rwa [show r.val / 256 * 256 + (r.val % 256 / 8 * 8 + r.val % 8) = r.val by omega] at this
  · intro h r l
    exact ⟨(mag_nonneg _).trans (h 0 0), fun t ht g => h ⟨_, by omega⟩ l⟩

/-- What the last grid point stores as the largest magnitude of the normed rows. -/
theorem xm_point (c : Dev nD) (t : Fin cfg0.N) (ht : t.val = 17) (j : S1.Idx) :
    (outsAt0 m c t.val t.isLt).2.2.2.2.1 j = xMax (m (c.tc.loc main_arg0)) (m (c.tc.loc main_arg1)) := by
  refine eq_of_forall_ge_iff fun B => ?_
  rw [xm_C m c t (by omega) (by omega), View.canon_cons_unit_lit inb_S1_S1_0 _ _ (by intro a; fin_cases a; rfl)]
  refine (all_le _ B).trans ?_
  rw [xMax_le, ← x_cover]
  refine forall₂_congr fun u l => ?_
  rw [read_back, ← xs_C m c t (by omega) (by omega)]
  refine (xs_le m c u l B t.val t.isLt).trans ?_
  rw [ht]

/-- The heads' running maxima after the last grid point, together. -/
theorem hs_last (c : Dev nD) (t : Fin cfg0.N) (ht : t.val = 17) (n : ℕ) (hn : n < 24) (B : EReal) :
    (∀ (r : Fin 8) (l : Fin 128), (outsAt0 m c t.val t.isLt).2.2.2.2.2.2.2.2.2 (ix3 ⟨n, hn⟩ r l) ≤ B) ↔ hMax (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) n ≤ B := by
  rw [hMax_le, ← h_cover (fun r d => headAt (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) r n d)]
  refine forall₂_congr fun r l => (hs_all m c n hn r l B t.val t.isLt).trans ?_
  rw [ht]

/-- What it stores as the largest magnitude of each head of the queries. -/
theorem qm_point (c : Dev nD) (t : Fin cfg0.N) (ht : t.val = 17) (j : S16.Idx) :
    (outsAt0 m c t.val t.isLt).2.2.2.2.2.1 j = hMax (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (j 0 : ℕ) := by
  refine eq_of_forall_ge_iff fun B => ?_
  have hj : (j 0).val < 16 := (j 0).isLt
  rw [qm_C m c t (by omega) (by omega), show j = ix1 ⟨(j 0).val, (j 0).isLt⟩ from by funext a; fin_cases a; rfl]
  refine (q_le scM0_1 _ (j 0).val (j 0).isLt B).trans ?_
  rw [← hs_C m c t (by omega) (by omega)]
  exact hs_last m c t ht (j 0 : ℕ) (by omega) B

/-- What it stores as the largest magnitude of each head of the keys. -/
theorem km_point (c : Dev nD) (t : Fin cfg0.N) (ht : t.val = 17) (j : S4.Idx) :
    (outsAt0 m c t.val t.isLt).2.2.2.2.2.2.1 j = hMax (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (16 + (j 0 : ℕ)) := by
  refine eq_of_forall_ge_iff fun B => ?_
  have hj : (j 0).val < 4 := (j 0).isLt
  rw [km_C m c t (by omega) (by omega), show j = ix1 ⟨(j 0).val, (j 0).isLt⟩ from by funext a; fin_cases a; rfl]
  refine (k_le scM0_1 _ 16 (j 0).val (j 0).isLt (by have : (j 0).val < 4 := (j 0).isLt; omega) B).trans ?_
  rw [← hs_C m c t (by omega) (by omega)]
  exact hs_last m c t ht (16 + (j 0 : ℕ)) (by omega) B

/-- What it stores as the largest magnitude of each head of the values. -/
theorem vm_point (c : Dev nD) (t : Fin cfg0.N) (ht : t.val = 17) (j : S4.Idx) :
    (outsAt0 m c t.val t.isLt).2.2.2.2.2.2.2.1 j = hMax (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (20 + (j 0 : ℕ)) := by
  refine eq_of_forall_ge_iff fun B => ?_
  have hj : (j 0).val < 4 := (j 0).isLt
  rw [vm_C m c t (by omega) (by omega), show j = ix1 ⟨(j 0).val, (j 0).isLt⟩ from by funext a; fin_cases a; rfl]
  refine (k_le scM0_1 _ 20 (j 0).val (j 0).isLt (by have : (j 0).val < 4 := (j 0).isLt; omega) B).trans ?_
  rw [← hs_C m c t (by omega) (by omega)]
  exact hs_last m c t ht (20 + (j 0 : ℕ)) (by omega) B

/-- The maximum of the normed rows after the run. -/
theorem xm_final (c : Dev nD) : (dats m 0 c).arrAt 16 cfg0.N = fun _ => xMax (m (c.tc.loc main_arg0)) (m (c.tc.loc main_arg1)) := by
  refine (dats m 0 c).arrAt_eq_of_after_last 16 ⟨17, by rw [show cfg0.N = 18 from N_0]; omega⟩ (by decide +kernel) _ fun j => ?_
  rw [after0_16]
  exact xm_point m c ⟨17, _⟩ rfl _

/-- The queries' maxima after the run. -/
theorem qm_final (c : Dev nD) : (dats m 0 c).arrAt 17 cfg0.N = fun j => hMax (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (j 0 : ℕ) := by
  refine (dats m 0 c).arrAt_eq_of_after_last 17 ⟨17, by rw [show cfg0.N = 18 from N_0]; omega⟩ (by decide +kernel) _ fun j => ?_
  rw [after0_17]
  exact qm_point m c ⟨17, _⟩ rfl _

/-- The keys' maxima after the run. -/
theorem km_final (c : Dev nD) : (dats m 0 c).arrAt 18 cfg0.N = fun j => hMax (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (16 + (j 0 : ℕ)) := by
  refine (dats m 0 c).arrAt_eq_of_after_last 18 ⟨17, by rw [show cfg0.N = 18 from N_0]; omega⟩ (by decide +kernel) _ fun j => ?_
  rw [after0_18]
  exact km_point m c ⟨17, _⟩ rfl _

/-- The values' maxima after the run. -/
theorem vm_final (c : Dev nD) : (dats m 0 c).arrAt 19 cfg0.N = fun j => hMax (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (20 + (j 0 : ℕ)) := by
  refine (dats m 0 c).arrAt_eq_of_after_last 19 ⟨17, by rw [show cfg0.N = 18 from N_0]; omega⟩ (by decide +kernel) _ fun j => ?_
  rw [after0_19]
  exact vm_point m c ⟨17, _⟩ rfl _

end Cert.QkvIdeal.Hand

end
-- ==== Proof.QkvReference.lean ====
module

public import proofs.«01_k».proof.Proof.QkvKernel
public import proofs.«01_k».proof.Proof.Gen.QkvRefIdeal.Value

@[expose] public section

set_option maxRecDepth 16384

noncomputable section

namespace Cert.QkvRefIdeal.Hand

open Cert.QkvRefIdeal Cert.QkvRefIdeal.Gen Idealize.ShloMosaic Idealize.ShloMosaic.TcCoe Idealize.SL.Sem
open Idealize.ShloMosaic.Pipeline (Dat)

variable (m : (ℓ : Loc nD τ sig) → Buf (Elt Ideal) ℓ)

/-- The reference's one grid point has each array from its start. -/
theorem idx : ∀ t : Fin cfg0.N, (win0_0.index t = ![0, 0] ∧ win0_1.index t = ![0, 0] ∧ win0_2.index t = ![0, 0] ∧ win0_3.index t = ![0, 0]
    ∧ win0_4.index t = ![0, 0, 0] ∧ win0_5.index t = ![0, 0, 0] ∧ win0_6.index t = ![0, 0] ∧ win0_7.index t = ![0] ∧ win0_8.index t = ![0]
    ∧ win0_9.index t = ![0] ∧ win0_10.index t = ![0] ∧ win0_11.index t = ![0])
    ∧ win0_12.index t = ![0, 0] ∧ win0_13.index t = ![0, 0] ∧ win0_14.index t = ![0, 0] ∧ win0_15.index t = ![0, 0]
    ∧ win0_16.index t = ![0] ∧ win0_17.index t = ![0] ∧ win0_18.index t = ![0] ∧ win0_19.index t = ![0] :=
  (by decide +kernel : ∀ t : Fin grid0.N, _)

/-! ## The reference has the whole of each argument at its one grid point -/

/-- Argument 0, whole. -/
theorem whole0 (c : Dev nD) (t : Fin cfg0.N) : iblk m c 0 t = m (c.tc.loc main_arg0) := by
  funext i; blk_ext [iblk, V, idx t]

/-- Argument 1, whole. -/
theorem whole1 (c : Dev nD) (t : Fin cfg0.N) : iblk m c 1 t = m (c.tc.loc main_arg1) := by
  funext i; blk_ext [iblk, V, idx t]

/-- Argument 2, whole. -/
theorem whole2 (c : Dev nD) (t : Fin cfg0.N) : iblk m c 2 t = m (c.tc.loc main_arg2) := by
  funext i; blk_ext [iblk, V, idx t]

/-- Argument 3, whole. -/
theorem whole3 (c : Dev nD) (t : Fin cfg0.N) : iblk m c 3 t = m (c.tc.loc main_arg3) := by
  funext i; blk_ext [iblk, V, idx t]

/-- Argument 4, whole. -/
theorem whole4 (c : Dev nD) (t : Fin cfg0.N) : iblk m c 4 t = m (c.tc.loc main_arg4) := by
  funext i; blk_ext [iblk, V, idx t]

/-- Argument 5, whole. -/
theorem whole5 (c : Dev nD) (t : Fin cfg0.N) : iblk m c 5 t = m (c.tc.loc main_arg5) := by
  funext i; blk_ext [iblk, V, idx t]

/-- Argument 6, whole. -/
theorem whole6 (c : Dev nD) (t : Fin cfg0.N) : iblk m c 6 t = m (c.tc.loc main_arg6) := by
  funext i; blk_ext [iblk, V, idx t]

/-- Argument 7, whole. -/
theorem whole7 (c : Dev nD) (t : Fin cfg0.N) : iblk m c 7 t = m (c.tc.loc main_arg7) := by
  funext i; blk_ext [iblk, V, idx t]

/-- Argument 8, whole. -/
theorem whole8 (c : Dev nD) (t : Fin cfg0.N) : iblk m c 8 t = m (c.tc.loc main_arg8) := by
  funext i; blk_ext [iblk, V, idx t]

/-- Argument 9, whole. -/
theorem whole9 (c : Dev nD) (t : Fin cfg0.N) : iblk m c 9 t = m (c.tc.loc main_arg9) := by
  funext i; blk_ext [iblk, V, idx t]

/-- Argument 10, whole. -/
theorem whole10 (c : Dev nD) (t : Fin cfg0.N) : iblk m c 10 t = m (c.tc.loc main_arg10) := by
  funext i; blk_ext [iblk, V, idx t]

/-- Argument 11, whole. -/
theorem whole11 (c : Dev nD) (t : Fin cfg0.N) : iblk m c 11 t = m (c.tc.loc main_arg11) := by
  funext i; blk_ext [iblk, V, idx t]

/-- An array of one entry has one place. -/
theorem one_idx (i : S1.Idx) : i = ix1 0 := by
  funext a
  fin_cases a
  exact Fin.ext (by have : (i 0).val < 1 := (i 0).isLt; show (i 0).val = 0; omega)

/-- The scale of the normed rows, -/
theorem blk7 (c : Dev nD) (t : Fin cfg0.N) (i : S1.Idx) : iblk m c 7 t i = m (c.tc.loc main_arg7) (ix1 0) := by
  rw [whole7, one_idx i]

/-- and of the weights, as numbers. -/
theorem blk8 (c : Dev nD) (t : Fin cfg0.N) (i : S1.Idx) : iblk m c 8 t i = m (c.tc.loc main_arg8) (ix1 0) := by
  rw [whole8, one_idx i]

/-! ## What it computes -/

open Cert.QkvIdeal.Hand (at1 at2 at3 at1_of at2_of at3_of clip mag normV prdR headR normAt headAt xCodes qCodes kCodes xMax hMax xMax_le hMax_le ref_norm ref_code
  ref_prod ref_q ref_k ref_v ref_qcode ref_vcode ref_xmax_le ref_qmax_le ref_vmax_le ref_kmax_eq ref_kcode_eq)

section Payloads

variable (X : FVec Ideal S4608x4096 .bf16) (G : FVec Ideal S1x4096 .f32) (γ γ' : FVec Ideal S1x128 .f32) (C S : FVec Ideal S6x256x64 .f32)
  (W : FVec Ideal S4096x3072 .fp8e4m3) (s a : FVec Ideal S1 .f32)

/-- The projections. -/
abbrev prod : FVec Ideal S4608x3072 .f32 := k0_pay9 (F := Ideal) X G (s (ix1 0)) W (s (ix1 0)) (a (ix1 0))

/-- The queries, -/
abbrev queries : FVec Ideal S4608x16x128 .f32 := k0_pay12 (F := Ideal) (prod X G W s a) C S γ

/-- the keys, -/
abbrev keys : FVec Ideal S4608x4x128 .f32 :=
  k0_pay16 (F := Ideal) (k0_pay10 C) (k0_pay11 S) (k0_pay13 (prod X G W s a)) (k0_pay14 γ') (k0_pay15 (prod X G W s a)) (Ideal.ofBits .f32 0x43000000#32)

/-- and the values. -/
abbrev vals : FVec Ideal S4608x4x128 .f32 := k0_pay17 (F := Ideal) (prod X G W s a)

/-! ## That these are the results as stated for the kernel -/

/-- The reference's normed entries are the ones stated. -/
theorem norm_eq (r : Fin 4608) (k : Fin 4096) : k0_pay6 (F := Ideal) X G (ix2 r k) = normAt X G r k :=
  ref_norm X G r k _ _ (fun n h => at2_of (a := 4608) (b := 4096) X r.isLt h) fun n h => at2_of (a := 1) (b := 4096) G Nat.one_pos h

/-- A projection's entry. -/
theorem prod_eq (r : Fin 4608) (j : ℕ) (hj : j < 3072) : prod X G W s a (ix2 r ⟨j, hj⟩)
    = prdR (s (ix1 0)) (a (ix1 0)) (at2 4608 4096 X r) (at2 1 4096 G 0) (at2 4096 3072 W) j := by
  refine (ref_prod X G _ W _ _ r ⟨j, hj⟩).trans (congrArg₂ (fun a b : EReal => a * b) (Finset.sum_congr rfl fun k _ => ?_) rfl)
  rw [ref_code, norm_eq]
  exact congrArg₂ (fun a b : EReal => a * b) rfl (at2_of (a := 4096) (b := 3072) W k.isLt hj)

/-- So are its queries, -/
theorem queries_eq (r : Fin 4608) (h : Fin 16) (d : Fin 128) :
    queries X G γ C S W s a (ix3 r h d) = headAt X G γ γ' C S W s a r h d := by
  rw [headAt, headR, if_pos h.isLt]
  refine ref_q _ C S γ r h d _ _ _ _ (fun n h0 hn => ?_) (fun n hn => at2_of (a := 1) (b := 128) γ Nat.one_pos hn)
    (fun n hn => at3_of (a := 6) (b := 256) (c := 64) C (by omega) (by omega) hn) fun n hn => at3_of (a := 6) (b := 256) (c := 64) S (by omega) (by omega) hn
  rw [prod_eq, Nat.mul_comm]

/-- its keys, -/
theorem keys_eq (r : Fin 4608) (h : Fin 4) (d : Fin 128) :
    keys X G γ' C S W s a (ix3 r h d) = headAt X G γ γ' C S W s a r (16 + h) d := by
  rw [headAt, headR, if_neg (by omega), if_pos (by omega)]
  refine ref_k _ C S γ' r h d _ _ _ _ (fun n h0 hn => ?_) (fun n hn => at2_of (a := 1) (b := 128) γ' Nat.one_pos hn)
    (fun n hn => at3_of (a := 6) (b := 256) (c := 64) C (by omega) (by omega) hn) fun n hn => at3_of (a := 6) (b := 256) (c := 64) S (by omega) (by omega) hn
  rw [prod_eq, show 2048 + (h.val * 128 + n) = 128 * (16 + h.val) + n by omega]

/-- and its values; -/
theorem vals_eq (r : Fin 4608) (h : Fin 4) (d : Fin 128) :
    vals X G W s a (ix3 r h d) = headAt X G γ γ' C S W s a r (20 + h) d := by
  rw [headAt, headR, if_neg (by omega), if_neg (by omega)]
  refine (ref_v _ r h d).trans ?_
  rw [prod_eq, show 2560 + (h.val * 128 + d.val) = 128 * (20 + h.val) + d.val by omega]

/-- the codes of the normed rows, -/
theorem x_eq : k0_pay7 (F := Ideal) X G (s (ix1 0)) = xCodes X G s := by
  have key : ∀ (r : Fin 4608) (k : Fin 4096), k0_pay7 (F := Ideal) X G (s (ix1 0)) (ix2 r k) = xCodes X G s (ix2 r k) := fun r k => by
    rw [ref_code, norm_eq]
    rfl
  funext j
  rw [eq_ix2 j]
  exact key (j 0) (j 1)

/-- the codes of the queries, -/
theorem q_eq (t : FVec Ideal S16 .f32) : k0_pay3 (F := Ideal) (k0_pay18 (queries X G γ C S W s a) t) = qCodes X G γ γ' C S W s a t := by
  have key : ∀ (r : Fin 4608) (k : Fin 2048), k0_pay3 (F := Ideal) (k0_pay18 (queries X G γ C S W s a) t) (ix2 r k)
      = qCodes X G γ γ' C S W s a t (ix2 r k) := fun r k => by
    refine (ref_qcode _ t r k).trans ?_
    rw [queries_eq X G γ γ']
    exact congrArg₂ clip (at1_of (a := 16) t (by omega)) rfl
  funext j
  rw [eq_ix2 j]
  exact key (j 0) (j 1)

/-- The codes of the keys and of the values, of any heads that are the kernel's from `o` on. -/
theorem k_eq (o : ℕ) (v : FVec Ideal S4608x4x128 .f32) (hv : ∀ (r : Fin 4608) (h : Fin 4) (d : Fin 128), v (ix3 r h d) = headAt X G γ γ' C S W s a r (o + h) d)
    (t : FVec Ideal S4 .f32) : k0_pay5 (F := Ideal) v t = kCodes X G γ γ' C S W s a o t := by
  have key : ∀ (r : Fin 4608) (k : Fin 512), k0_pay5 (F := Ideal) v t (ix2 r k) = kCodes X G γ γ' C S W s a o t (ix2 r k) := fun r k => by
    refine (ref_vcode v t r k).trans ?_
    rw [hv]
    exact congrArg₂ clip (at1_of (a := 4) t (by omega)) rfl
  funext j
  rw [eq_ix2 j]
  exact key (j 0) (j 1)

/-- The largest magnitude of the normed rows, -/
theorem xm_eq : k0_pay8 (F := Ideal) X G = xMax X G := by
  refine eq_of_forall_ge_iff fun B => ?_
  rw [xMax_le]
  refine (ref_xmax_le X G B).trans (forall₂_congr fun r k => ?_)
  rw [norm_eq]

/-- of the queries' heads, -/
theorem qm_eq : k0_pay19 (F := Ideal) (queries X G γ C S W s a) = fun j : S16.Idx => hMax X G γ γ' C S W s a (j 0 : ℕ) := by
  have key : ∀ n : Fin 16, k0_pay19 (F := Ideal) (queries X G γ C S W s a) (ix1 n) = hMax X G γ γ' C S W s a n := fun n =>
    eq_of_forall_ge_iff fun B => by
      rw [hMax_le]
      refine (ref_qmax_le _ n B).trans (forall₂_congr fun r d => ?_)
      rw [queries_eq X G γ γ']
  funext j
  exact (congrArg _ (show j = ix1 (j 0) from by funext a; fin_cases a; rfl)).trans (key (j 0))

/-- and of the heads of keys or values. -/
theorem km_eq (o : ℕ) (v : FVec Ideal S4608x4x128 .f32) (hv : ∀ (r : Fin 4608) (h : Fin 4) (d : Fin 128), v (ix3 r h d) = headAt X G γ γ' C S W s a r (o + h) d) :
    k0_pay2 (F := Ideal) v = fun j : S4.Idx => hMax X G γ γ' C S W s a (o + (j 0 : ℕ)) := by
  have key : ∀ n : Fin 4, k0_pay2 (F := Ideal) v (ix1 n) = hMax X G γ γ' C S W s a (o + n) := fun n =>
    eq_of_forall_ge_iff fun B => by
      rw [hMax_le]
      refine (ref_vmax_le v n B).trans (forall₂_congr fun r d => ?_)
      rw [hv]
  funext j
  exact (congrArg _ (show j = ix1 (j 0) from by funext a; fin_cases a; rfl)).trans (key (j 0))

end Payloads

/-- The reference's codes of the normed rows after the run. -/
theorem x_final (c : Dev nD) : (dats m 0 c).arrAt 12 cfg0.N = k0_pay7 (F := Ideal) (m (c.tc.loc main_arg0)) (m (c.tc.loc main_arg1)) ((m (c.tc.loc main_arg7)) (ix1 0)) := by
  refine (dats m 0 c).arrAt_eq_of_covers 12 _ (by decide +kernel) fun t _ y => ?_
  have e : ((cfg0.win 12).blk t).view.emb y = y := by
    funext a; fin_cases a <;> (apply Fin.ext; blk_simp [idx t])
  blk_simp
  rw [after0_12]
  unfold outsAt0; frame_out
  simp only [read_unread_whole, e]
  rw [blk7, whole0, whole1]

/-- The reference's codes of the queries after the run. -/
theorem q_final (c : Dev nD) : (dats m 0 c).arrAt 13 cfg0.N = k0_pay3 (F := Ideal) (k0_pay18 (queries (m (c.tc.loc main_arg0)) (m (c.tc.loc main_arg1)) (m (c.tc.loc main_arg2)) (m (c.tc.loc main_arg4)) (m (c.tc.loc main_arg5)) (m (c.tc.loc main_arg6)) (m (c.tc.loc main_arg7)) (m (c.tc.loc main_arg8))) (m (c.tc.loc main_arg9))) := by
  refine (dats m 0 c).arrAt_eq_of_covers 13 _ (by decide +kernel) fun t _ y => ?_
  have e : ((cfg0.win 13).blk t).view.emb y = y := by
    funext a; fin_cases a <;> (apply Fin.ext; blk_simp [idx t])
  blk_simp
  rw [after0_13]
  unfold outsAt0; frame_out
  simp only [read_unread_whole, e]
  rw [blk7, blk8, whole0, whole1, whole2, whole4, whole5, whole6, whole9]

/-- The reference's codes of the keys after the run. -/
theorem k_final (c : Dev nD) : (dats m 0 c).arrAt 14 cfg0.N = k0_pay4 (F := Ideal) (k0_pay20 (k0_pay10 (m (c.tc.loc main_arg4))) (k0_pay11 (m (c.tc.loc main_arg5))) (k0_pay13 (prod (m (c.tc.loc main_arg0)) (m (c.tc.loc main_arg1)) (m (c.tc.loc main_arg6)) (m (c.tc.loc main_arg7)) (m (c.tc.loc main_arg8)))) (k0_pay14 (m (c.tc.loc main_arg3))) (k0_pay15 (prod (m (c.tc.loc main_arg0)) (m (c.tc.loc main_arg1)) (m (c.tc.loc main_arg6)) (m (c.tc.loc main_arg7)) (m (c.tc.loc main_arg8)))) (Ideal.ofBits .f32 0x43000000#32) (m (c.tc.loc main_arg10))) := by
  refine (dats m 0 c).arrAt_eq_of_covers 14 _ (by decide +kernel) fun t _ y => ?_
  have e : ((cfg0.win 14).blk t).view.emb y = y := by
    funext a; fin_cases a <;> (apply Fin.ext; blk_simp [idx t])
  blk_simp
  rw [after0_14]
  unfold outsAt0; frame_out
  simp only [read_unread_whole, e]
  rw [blk7, blk8, whole0, whole1, whole3, whole4, whole5, whole6, whole10]; rfl

/-- The reference's codes of the values after the run. -/
theorem v_final (c : Dev nD) : (dats m 0 c).arrAt 15 cfg0.N = k0_pay5 (F := Ideal) (vals (m (c.tc.loc main_arg0)) (m (c.tc.loc main_arg1)) (m (c.tc.loc main_arg6)) (m (c.tc.loc main_arg7)) (m (c.tc.loc main_arg8))) (m (c.tc.loc main_arg11)) := by
  refine (dats m 0 c).arrAt_eq_of_covers 15 _ (by decide +kernel) fun t _ y => ?_
  have e : ((cfg0.win 15).blk t).view.emb y = y := by
    funext a; fin_cases a <;> (apply Fin.ext; blk_simp [idx t])
  blk_simp
  rw [after0_15]
  unfold outsAt0; frame_out
  simp only [read_unread_whole, e]
  rw [blk7, blk8, whole0, whole1, whole6, whole11]

/-- The reference's maximum of the normed rows after the run. -/
theorem xm_final (c : Dev nD) : (dats m 0 c).arrAt 16 cfg0.N = fun _ => k0_pay8 (F := Ideal) (m (c.tc.loc main_arg0)) (m (c.tc.loc main_arg1)) := by
  refine (dats m 0 c).arrAt_eq_of_covers 16 _ (by decide +kernel) fun t _ y => ?_
  blk_simp
  rw [after0_16]
  unfold outsAt0; frame_out
  simp only [read_unread_whole]
  rw [whole0, whole1]

/-- The reference's queries' maxima after the run. -/
theorem qm_final (c : Dev nD) : (dats m 0 c).arrAt 17 cfg0.N = k0_pay19 (F := Ideal) (queries (m (c.tc.loc main_arg0)) (m (c.tc.loc main_arg1)) (m (c.tc.loc main_arg2)) (m (c.tc.loc main_arg4)) (m (c.tc.loc main_arg5)) (m (c.tc.loc main_arg6)) (m (c.tc.loc main_arg7)) (m (c.tc.loc main_arg8))) := by
  refine (dats m 0 c).arrAt_eq_of_covers 17 _ (by decide +kernel) fun t _ y => ?_
  have e : ((cfg0.win 17).blk t).view.emb y = y := by
    funext a; fin_cases a <;> (apply Fin.ext; blk_simp [idx t])
  blk_simp
  rw [after0_17]
  unfold outsAt0; frame_out
  simp only [read_unread_whole, e]
  rw [blk7, blk8, whole0, whole1, whole2, whole4, whole5, whole6]

/-- The reference's keys' maxima after the run. -/
theorem km_final (c : Dev nD) : (dats m 0 c).arrAt 18 cfg0.N = k0_pay1 (F := Ideal) (k0_pay21 (k0_pay10 (m (c.tc.loc main_arg4))) (k0_pay11 (m (c.tc.loc main_arg5))) (k0_pay13 (prod (m (c.tc.loc main_arg0)) (m (c.tc.loc main_arg1)) (m (c.tc.loc main_arg6)) (m (c.tc.loc main_arg7)) (m (c.tc.loc main_arg8)))) (k0_pay14 (m (c.tc.loc main_arg3))) (k0_pay15 (prod (m (c.tc.loc main_arg0)) (m (c.tc.loc main_arg1)) (m (c.tc.loc main_arg6)) (m (c.tc.loc main_arg7)) (m (c.tc.loc main_arg8)))) (Ideal.ofBits .f32 0x43000000#32)) := by
  refine (dats m 0 c).arrAt_eq_of_covers 18 _ (by decide +kernel) fun t _ y => ?_
  have e : ((cfg0.win 18).blk t).view.emb y = y := by
    funext a; fin_cases a <;> (apply Fin.ext; blk_simp [idx t])
  blk_simp
  rw [after0_18]
  unfold outsAt0; frame_out
  simp only [read_unread_whole, e]
  rw [blk7, blk8, whole0, whole1, whole3, whole4, whole5, whole6]; rfl

/-- The reference's values' maxima after the run. -/
theorem vm_final (c : Dev nD) : (dats m 0 c).arrAt 19 cfg0.N = k0_pay2 (F := Ideal) (vals (m (c.tc.loc main_arg0)) (m (c.tc.loc main_arg1)) (m (c.tc.loc main_arg6)) (m (c.tc.loc main_arg7)) (m (c.tc.loc main_arg8))) := by
  refine (dats m 0 c).arrAt_eq_of_covers 19 _ (by decide +kernel) fun t _ y => ?_
  have e : ((cfg0.win 19).blk t).view.emb y = y := by
    funext a; fin_cases a <;> (apply Fin.ext; blk_simp [idx t])
  blk_simp
  rw [after0_19]
  unfold outsAt0; frame_out
  simp only [read_unread_whole, e]
  rw [blk7, blk8, whole0, whole1, whole6]

/-! ## The results after the run, as stated for the kernel -/

/-- The codes of the normed rows. -/
theorem x_result (c : Dev nD) : (dats m 0 c).arrAt 12 cfg0.N = xCodes (m (c.tc.loc main_arg0)) (m (c.tc.loc main_arg1)) (m (c.tc.loc main_arg7)) :=
  (x_final m c).trans (x_eq (m (c.tc.loc main_arg0)) (m (c.tc.loc main_arg1)) (m (c.tc.loc main_arg7)))

/-- The codes of the queries. -/
theorem q_result (c : Dev nD) : (dats m 0 c).arrAt 13 cfg0.N = qCodes (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) :=
  (q_final m c).trans (q_eq (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)))

/-- The codes of the keys. -/
theorem k_result (c : Dev nD) : (dats m 0 c).arrAt 14 cfg0.N = kCodes (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) 16 (m (c.tc.loc main_arg10)) :=
  (k_final m c).trans ((ref_kcode_eq _ _ _ _ _ _ _).trans (k_eq (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) 16 _ (keys_eq (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8))) (m (c.tc.loc main_arg10))))

/-- The codes of the values. -/
theorem v_result (c : Dev nD) : (dats m 0 c).arrAt 15 cfg0.N = kCodes (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) 20 (m (c.tc.loc main_arg11)) :=
  (v_final m c).trans (k_eq (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) 20 _ (vals_eq (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8))) (m (c.tc.loc main_arg11)))

/-- The largest magnitude of the normed rows. -/
theorem xm_result (c : Dev nD) : (dats m 0 c).arrAt 16 cfg0.N = fun _ => xMax (m (c.tc.loc main_arg0)) (m (c.tc.loc main_arg1)) :=
  (xm_final m c).trans (funext fun _ => xm_eq (m (c.tc.loc main_arg0)) (m (c.tc.loc main_arg1)))

/-- The largest magnitudes of the queries' heads. -/
theorem qm_result (c : Dev nD) : (dats m 0 c).arrAt 17 cfg0.N = fun j : S16.Idx => hMax (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (j 0 : ℕ) :=
  (qm_final m c).trans (qm_eq (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)))

/-- The largest magnitudes of the keys' heads. -/
theorem km_result (c : Dev nD) : (dats m 0 c).arrAt 18 cfg0.N = fun j : S4.Idx => hMax (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (16 + (j 0 : ℕ)) :=
  (km_final m c).trans ((ref_kmax_eq _ _ _ _ _ _).trans (km_eq (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) 16 _ (keys_eq (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)))))

/-- The largest magnitudes of the values' heads. -/
theorem vm_result (c : Dev nD) : (dats m 0 c).arrAt 19 cfg0.N = fun j : S4.Idx => hMax (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (20 + (j 0 : ℕ)) :=
  (vm_final m c).trans (km_eq (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) 20 _ (vals_eq (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8))))

end Cert.QkvRefIdeal.Hand

end
-- ==== Proof.QkvClaim.lean ====
module

public import proofs.«01_k».proof.Proof.QkvReference
public import proofs.«01_k».proof.Defs

@[expose] public section

set_option maxRecDepth 16384

noncomputable section

namespace Cert.Qkv.Hand

open Idealize.ShloMosaic Idealize.ShloMosaic.TcCoe Idealize.SL.Sem

set_option maxHeartbeats 2000000 in
/-- On the same arguments, kernel and reference leave the same eight results. -/
theorem algebraic [Cert.QkvIdeal.Facts] [Cert.QkvRefIdeal.Facts] : Cert.algebraic_QkvIdeal_QkvRefIdeal := by
  intro m g m' g' _ hm
  refine ⟨fun c => (Cert.QkvIdeal.Gen.dats m 0 c).arrAt 12 Cert.QkvIdeal.cfg0.N, fun c => (Cert.QkvIdeal.Gen.dats m 0 c).arrAt 13 Cert.QkvIdeal.cfg0.N, fun c => (Cert.QkvIdeal.Gen.dats m 0 c).arrAt 14 Cert.QkvIdeal.cfg0.N, fun c => (Cert.QkvIdeal.Gen.dats m 0 c).arrAt 15 Cert.QkvIdeal.cfg0.N, fun c => (Cert.QkvIdeal.Gen.dats m 0 c).arrAt 16 Cert.QkvIdeal.cfg0.N, fun c => (Cert.QkvIdeal.Gen.dats m 0 c).arrAt 17 Cert.QkvIdeal.cfg0.N, fun c => (Cert.QkvIdeal.Gen.dats m 0 c).arrAt 18 Cert.QkvIdeal.cfg0.N, fun c => (Cert.QkvIdeal.Gen.dats m 0 c).arrAt 19 Cert.QkvIdeal.cfg0.N,
    Cert.QkvIdeal.Value.run_blocks m g, ?_⟩
  refine (θ_run _ _ _).mono (fun r h c => ⟨(h c).1.trans ?_, (h c).2.1.trans ?_, (h c).2.2.1.trans ?_, (h c).2.2.2.1.trans ?_, (h c).2.2.2.2.1.trans ?_,
    (h c).2.2.2.2.2.1.trans ?_, (h c).2.2.2.2.2.2.1.trans ?_, (h c).2.2.2.2.2.2.2.1.trans ?_, (h c).2.2.2.2.2.2.2.2⟩)
    (Cert.QkvRefIdeal.Value.run_blocks m' g') <;> obtain ⟨h0, h1, h2, h3, h4, h5, h6, h7, h8, h9, h10, h11⟩ := hm c
  · refine (Cert.QkvRefIdeal.Hand.x_result m' c).trans (Eq.trans ?_ (Cert.QkvIdeal.Hand.x_final m c).symm)
    rw [h0, h1, h7]
  · refine (Cert.QkvRefIdeal.Hand.q_result m' c).trans (Eq.trans ?_ (Cert.QkvIdeal.Hand.q_final m c).symm)
    rw [h0, h1, h2, h3, h4, h5, h6, h7, h8, h9]
  · refine (Cert.QkvRefIdeal.Hand.k_result m' c).trans (Eq.trans ?_ (Cert.QkvIdeal.Hand.k_final m c).symm)
    rw [h0, h1, h2, h3, h4, h5, h6, h7, h8, h10]
  · refine (Cert.QkvRefIdeal.Hand.v_result m' c).trans (Eq.trans ?_ (Cert.QkvIdeal.Hand.v_final m c).symm)
    rw [h0, h1, h2, h3, h4, h5, h6, h7, h8, h11]
  · refine (Cert.QkvRefIdeal.Hand.xm_result m' c).trans (Eq.trans ?_ (Cert.QkvIdeal.Hand.xm_final m c).symm)
    rw [h0, h1]
    rfl
  · refine (Cert.QkvRefIdeal.Hand.qm_result m' c).trans (Eq.trans ?_ (Cert.QkvIdeal.Hand.qm_final m c).symm)
    rw [h0, h1, h2, h3, h4, h5, h6, h7, h8]
    rfl
  · refine (Cert.QkvRefIdeal.Hand.km_result m' c).trans (Eq.trans ?_ (Cert.QkvIdeal.Hand.km_final m c).symm)
    rw [h0, h1, h2, h3, h4, h5, h6, h7, h8]
    rfl
  · refine (Cert.QkvRefIdeal.Hand.vm_result m' c).trans (Eq.trans ?_ (Cert.QkvIdeal.Hand.vm_final m c).symm)
    rw [h0, h1, h2, h3, h4, h5, h6, h7, h8]
    rfl

end Cert.Qkv.Hand

end
-- ==== Proof.GateUpKernel.lean ====
module

public import proofs.«01_k».proof.Proof.Gen.GateUpIdeal.Value
public import proofs.«01_k».proof.Proof.Gen.GateUpRefIdeal.Value
public import Idealize.ShloMosaic.Lib.Pipeline.ValueKit
public import Idealize.ShloMosaic.Lib.Pipeline.ReadBack

@[expose] public section

set_option maxRecDepth 16384

noncomputable section

namespace Cert.GateUpIdeal.Hand

open Cert.GateUpIdeal Cert.GateUpIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0] ∧ win0_1.index t = ![0] ∧ win0_2.index t = ![0]
    ∧ win0_3.index t = ![t.val / 12, 0] ∧ win0_4.index t = ![0, t.val % 12] ∧ win0_5.index t = ![0, t.val % 12 + 12]
    ∧ win0_6.index t = ![t.val / 12, t.val % 12] ∧ win0_7.index t = ![0] :=
  (by decide +kernel : ∀ t : Fin grid0.N, _)

/-- The reference's gated product at an entry: `g * (1 / (1 + exp (-g))) * u`, `g` and `u` the scaled products of a row of
    `f` with a column of the first and of the second half of `w`. -/
theorem hid_apply (f : FVec Ideal S4608x4096 .fp8e4m3) (w : FVec Ideal S4096x12288 .fp8e4m3) (a b : Ideal .f32) (j : S4608x6144.Idx) :
    GateUpRefIdeal.Gen.k0_pay1 (F := Ideal) f w a b j
      = (∑ k : Fin 4096, f (ix2 (j 0) k) * w (ix2 k ⟨(j 1).val, by have := (j 1).isLt; have : (j 1).val < 6144 := this; show _ < 12288; omega⟩)) * (a * b)
        * Ideal.div 1 (1 + Ideal.exp (-((∑ k : Fin 4096, f (ix2 (j 0) k) * w (ix2 k ⟨(j 1).val, by have := (j 1).isLt; have : (j 1).val < 6144 := this; show _ < 12288; omega⟩)) * (a * b))))
        * ((∑ k : Fin 4096, f (ix2 (j 0) k) * w (ix2 k ⟨6144 + (j 1).val, by have := (j 1).isLt; have : (j 1).val < 6144 := this; show _ < 12288; omega⟩)) * (a * b)) := by
  pointwise [GateUpRefIdeal.Gen.k0_pay1, Ideal.logistic_def]
  rfl

/-- The reference's code at an entry: the gated product over the scale, clipped. -/
theorem code_apply (f : FVec Ideal S4608x4096 .fp8e4m3) (w : FVec Ideal S4096x12288 .fp8e4m3) (a b h : Ideal .f32) (j : S4608x6144.Idx) :
    GateUpRefIdeal.Gen.k0_pay2 (F := Ideal) f w a b h j
      = min (Ideal.ofBits .f32 0x43E00000#32) (max (Ideal.ofBits .f32 0xC3E00000#32)
          (Ideal.div (GateUpRefIdeal.Gen.k0_pay1 (F := Ideal) f w a b j) h)) := by
  pointwise [GateUpRefIdeal.Gen.k0_pay2]

/-- The kernel's code at an entry of a tile, from the tile of gated products. -/
theorem tile_code_apply (h : Ideal .f32) (v : FVec Ideal S256x256 .f32) (x : S256x256.Idx) :
    k0_pay7 (F := Ideal) h v x
      = min (Ideal.ofBits .f32 0x43E00000#32) (max (Ideal.ofBits .f32 0xC3E00000#32) (Ideal.div (v x) h)) := by
  pointwise [k0_pay7]

/-- The kernel's gated product at an entry of a tile. -/
theorem tile_hid_apply (a b : Ideal .f32) (f f' : FVec Ideal S256x4096 .fp8e4m3) (w w' : FVec Ideal S4096x256 .fp8e4m3)
    (x : S256x256.Idx) :
    k0_pay4 (F := Ideal) a b f w f' w' x
      = (∑ k : Fin 4096, f (ix2 (x 0) k) * w (ix2 k (x 1))) * (a * b)
        * Ideal.div 1 (1 + Ideal.exp (-((∑ k : Fin 4096, f (ix2 (x 0) k) * w (ix2 k (x 1))) * (a * b))))
        * ((∑ k : Fin 4096, f' (ix2 (x 0) k) * w' (ix2 k (x 1))) * (a * b)) := by
  pointwise [k0_pay4, k0_pay3, zero_sub]

/-- The three scalars at every grid point. -/
theorem blk0 (c : Dev nD) (t : Fin cfg0.N) (i : S1.Idx) : iblk m c 0 t i = m (c.tc.loc main_arg2) (ix1 0) := by
  blk_ext [iblk, V, idx t]

theorem blk1 (c : Dev nD) (t : Fin cfg0.N) (i : S1.Idx) : iblk m c 1 t i = m (c.tc.loc main_arg3) (ix1 0) := by
  blk_ext [iblk, V, idx t]

theorem blk2 (c : Dev nD) (t : Fin cfg0.N) (i : S1.Idx) : iblk m c 2 t i = m (c.tc.loc main_arg4) (ix1 0) := by
  blk_ext [iblk, V, idx t]

/-- Grid point `t` has the half `t / 12` of the rows of `f`. -/
theorem blk3 (c : Dev nD) (t : Fin cfg0.N) (i : S2304x4096.Idx) (j : S4608x4096.Idx)
    (h0 : (j 0 : ℕ) = t.val / 12 * 2304 + i 0) (h1 : (j 1 : ℕ) = i 1) :
    iblk m c 3 t i = m (c.tc.loc main_arg0) j := by
  blk_ext [iblk, V, idx t]

/-- It has the block `t % 12` of 512 columns of `w`, -/
theorem blk4 (c : Dev nD) (t : Fin cfg0.N) (i : S4096x512.Idx) (j : S4096x12288.Idx)
    (h0 : (j 0 : ℕ) = i 0) (h1 : (j 1 : ℕ) = t.val % 12 * 512 + i 1) :
    iblk m c 4 t i = m (c.tc.loc main_arg1) j := by
  blk_ext [iblk, V, idx t]

/-- and the block of 512 columns that is 6144 columns to the right. -/
theorem blk5 (c : Dev nD) (t : Fin cfg0.N) (i : S4096x512.Idx) (j : S4096x12288.Idx)
    (h0 : (j 0 : ℕ) = i 0) (h1 : (j 1 : ℕ) = (t.val % 12 + 12) * 512 + i 1) :
    iblk m c 5 t i = m (c.tc.loc main_arg1) j := by
  blk_ext [iblk, V, idx t]

/-- The reference's gated products of the kernel's arguments. -/
abbrev hid (c : Dev nD) : FVec Ideal S4608x6144 .f32 :=
  GateUpRefIdeal.Gen.k0_pay1 (F := Ideal) (m (c.tc.loc main_arg0)) (m (c.tc.loc main_arg1)) (m (c.tc.loc main_arg2) (ix1 0))
    (m (c.tc.loc main_arg3) (ix1 0))

/-- One tile of gated products at grid point `t`: rows from `o`, columns from `p` of the point's block. Its entry `x` is the
    reference's at the entry `j` that lies that much further down and right. -/
theorem tile_hid (c : Dev nD) (t : Fin cfg0.N) (x : S256x256.Idx) (j : S4608x6144.Idx) (o p : ℕ)
    (i3 : ∀ a, (![o, 0] : Fin 2 → ℕ) a + (![256, 4096] : Fin 2 → ℕ) a ≤ S2304x4096.size a)
    (i4 : ∀ a, (![0, p] : Fin 2 → ℕ) a + (![4096, 256] : Fin 2 → ℕ) a ≤ S4096x512.size a)
    (h0 : (j 0 : ℕ) = t.val / 12 * 2304 + (o + x 0)) (h1 : (j 1 : ℕ) = t.val % 12 * 512 + (p + x 1)) (i0 i1 : S1.Idx) :
    k0_pay4 (F := Ideal)
      (View.ld (iblk m c 0 t) (Rect.unit ![0] ![1] inb_S1_S1_0) i0)
      (View.ld (iblk m c 1 t) (Rect.unit ![0] ![1] inb_S1_S1_0) i1)
      (View.ld (iblk m c 3 t) (Rect.unit ![o, 0] ![256, 4096] i3)) (View.ld (iblk m c 4 t) (Rect.unit ![0, p] ![4096, 256] i4))
      (View.ld (iblk m c 3 t) (Rect.unit ![o, 0] ![256, 4096] i3)) (View.ld (iblk m c 5 t) (Rect.unit ![0, p] ![4096, 256] i4)) x
    = hid m c j := by
  refine (tile_hid_apply _ _ _ _ _ _ x).trans (Eq.trans ?_ (hid_apply _ _ _ _ j).symm)
  have ef : ∀ k : Fin 4096, View.ld (iblk m c 3 t) (Rect.unit ![o, 0] ![256, 4096] i3) (ix2 (x 0) k)
      = m (c.tc.loc main_arg0) (ix2 (j 0) k) := fun k =>
    blk3 m c t _ _ (by rw [Rect.idx_unit_val]; exact h0) (by rw [Rect.idx_unit_val]; exact (Nat.zero_add _).symm)
  have eg : ∀ k : Fin 4096, View.ld (iblk m c 4 t) (Rect.unit ![0, p] ![4096, 256] i4) (ix2 k (x 1))
      = m (c.tc.loc main_arg1) (ix2 k ⟨(j 1).val, by have := (j 1).isLt; have : (j 1).val < 6144 := this; show _ < 12288; omega⟩) := fun k =>
    blk4 m c t _ _ (by rw [Rect.idx_unit_val]; exact (Nat.zero_add _).symm) (by rw [Rect.idx_unit_val]; exact h1)
  have eu : ∀ k : Fin 4096, View.ld (iblk m c 5 t) (Rect.unit ![0, p] ![4096, 256] i4) (ix2 k (x 1))
      = m (c.tc.loc main_arg1) (ix2 k ⟨6144 + (j 1).val, by have := (j 1).isLt; have : (j 1).val < 6144 := this; show _ < 12288; omega⟩) := fun k =>
    blk5 m c t _ _ (by rw [Rect.idx_unit_val]; exact (Nat.zero_add _).symm) (by
      rw [Rect.idx_unit_val]; show 6144 + (j 1).val = _ + (p + (x 1).val); rw [h1]; ring)
  have e0 : View.ld (iblk m c 0 t) (Rect.unit ![0] ![1] inb_S1_S1_0) i0 = m (c.tc.loc main_arg2) (ix1 0) := blk0 m c t _
  have e1 : View.ld (iblk m c 1 t) (Rect.unit ![0] ![1] inb_S1_S1_0) i1 = m (c.tc.loc main_arg3) (ix1 0) := blk1 m c t _
  simp only [ef, eg, eu, e0, e1]

/-- The same tile's codes. -/
theorem tile_code (c : Dev nD) (t : Fin cfg0.N) (x : S256x256.Idx) (j : S4608x6144.Idx) (o p : ℕ)
    (i3 : ∀ a, (![o, 0] : Fin 2 → ℕ) a + (![256, 4096] : Fin 2 → ℕ) a ≤ S2304x4096.size a)
    (i4 : ∀ a, (![0, p] : Fin 2 → ℕ) a + (![4096, 256] : Fin 2 → ℕ) a ≤ S4096x512.size a)
    (h0 : (j 0 : ℕ) = t.val / 12 * 2304 + (o + x 0)) (h1 : (j 1 : ℕ) = t.val % 12 * 512 + (p + x 1)) (i0 i1 i2 : S1.Idx) :
    k0_pay7 (F := Ideal) (View.ld (iblk m c 2 t) (Rect.unit ![0] ![1] inb_S1_S1_0) i2)
      (k0_pay4 (F := Ideal)
        (View.ld (iblk m c 0 t) (Rect.unit ![0] ![1] inb_S1_S1_0) i0)
        (View.ld (iblk m c 1 t) (Rect.unit ![0] ![1] inb_S1_S1_0) i1)
        (View.ld (iblk m c 3 t) (Rect.unit ![o, 0] ![256, 4096] i3)) (View.ld (iblk m c 4 t) (Rect.unit ![0, p] ![4096, 256] i4))
        (View.ld (iblk m c 3 t) (Rect.unit ![o, 0] ![256, 4096] i3)) (View.ld (iblk m c 5 t) (Rect.unit ![0, p] ![4096, 256] i4))) x
    = GateUpRefIdeal.Gen.k0_pay2 (F := Ideal) (m (c.tc.loc main_arg0)) (m (c.tc.loc main_arg1)) (m (c.tc.loc main_arg2) (ix1 0))
        (m (c.tc.loc main_arg3) (ix1 0)) (m (c.tc.loc main_arg4) (ix1 0)) j := by
  refine (tile_code_apply _ _ x).trans (Eq.trans ?_ (code_apply _ _ _ _ _ j).symm)
  rw [tile_hid m c t x j o p i3 i4 h0 h1 i0 i1,
    show View.ld (iblk m c 2 t) (Rect.unit ![0] ![1] inb_S1_S1_0) i2 = _ from blk2 m c t _]

/-- What grid point `t` stores into the block of codes, at entry `y`, is the reference's code at the entry `j` that lies the
    point's rows further down and the point's columns further right. -/
theorem codes_point (c : Dev nD) (t : Fin cfg0.N) (y : S2304x512.Idx) (j : S4608x6144.Idx)
    (e0 : (j 0 : ℕ) = t.val / 12 * 2304 + y 0) (e1 : (j 1 : ℕ) = t.val % 12 * 512 + y 1) :
    (outsAt0 m c t.val t.isLt).1 y
    = GateUpRefIdeal.Gen.k0_pay2 (F := Ideal) (m (c.tc.loc main_arg0)) (m (c.tc.loc main_arg1)) (m (c.tc.loc main_arg2) (ix1 0))
        (m (c.tc.loc main_arg3) (ix1 0)) (m (c.tc.loc main_arg4) (ix1 0)) j := by
  have z : ∀ {a b n : ℕ}, a = b → n + a = n + (0 + b) := fun h => by rw [h, Nat.zero_add]
  have s : ∀ {a b n : ℕ}, a = b → n + a = n + b := fun h => by rw [h]
  have hc : (t.val % 24 = 0 ∧ ¬ t.val % 24 = 23) ∨ (¬ t.val % 24 = 0 ∧ ¬ t.val % 24 = 23) ∨ (¬ t.val % 24 = 0 ∧ t.val % 24 = 23) := by
    omega
  rcases hc with ⟨h0, h1⟩ | ⟨h0, h1⟩ | ⟨h0, h1⟩
  · rw [outsAt0_A m c t h0 h1]; frame_out
    canon_tiles x h
    all_goals first
      | exact tile_code m c t x j _ _ _ _ (e0.trans (s h0)) (e1.trans (s h1)) _ _ _
      | exact tile_code m c t x j _ 0 _ _ (e0.trans (s h0)) (e1.trans (z h1)) _ _ _
      | exact tile_code m c t x j 0 _ _ _ (e0.trans (z h0)) (e1.trans (s h1)) _ _ _
      | exact tile_code m c t x j 0 0 _ _ (e0.trans (z h0)) (e1.trans (z h1)) _ _ _
  · rw [outsAt0_B m c t h0 h1]; frame_out
    canon_tiles x h
    all_goals first
      | exact tile_code m c t x j _ _ _ _ (e0.trans (s h0)) (e1.trans (s h1)) _ _ _
      | exact tile_code m c t x j _ 0 _ _ (e0.trans (s h0)) (e1.trans (z h1)) _ _ _
      | exact tile_code m c t x j 0 _ _ _ (e0.trans (z h0)) (e1.trans (s h1)) _ _ _
      | exact tile_code m c t x j 0 0 _ _ (e0.trans (z h0)) (e1.trans (z h1)) _ _ _
  · rw [outsAt0_C m c t h0 h1]; frame_out
    canon_tiles x h
    all_goals first
      | exact tile_code m c t x j _ _ _ _ (e0.trans (s h0)) (e1.trans (s h1)) _ _ _
      | exact tile_code m c t x j _ 0 _ _ (e0.trans (s h0)) (e1.trans (z h1)) _ _ _
      | exact tile_code m c t x j 0 _ _ _ (e0.trans (z h0)) (e1.trans (s h1)) _ _ _
      | exact tile_code m c t x j 0 0 _ _ (e0.trans (z h0)) (e1.trans (z h1)) _ _ _

/-- The array of codes after the run is the reference's. -/
theorem codes_final (c : Dev nD) : (dats m 0 c).arrAt 6 cfg0.N
    = GateUpRefIdeal.Gen.k0_pay2 (F := Ideal) (m (c.tc.loc main_arg0)) (m (c.tc.loc main_arg1)) (m (c.tc.loc main_arg2) (ix1 0))
        (m (c.tc.loc main_arg3) (ix1 0)) (m (c.tc.loc main_arg4) (ix1 0)) := by
  refine (dats m 0 c).arrAt_eq_of_covers 6 _ (by decide +kernel) fun t _ y => ?_
  blk_simp
  have e0 : ((((cfg0.win 6).blk t).view.emb y) 0 : ℕ) = t.val / 12 * 2304 + y 0 := by blk_simp [idx t]
  have e1 : ((((cfg0.win 6).blk t).view.emb y) 1 : ℕ) = t.val % 12 * 512 + y 1 := by blk_simp [idx t]
  rw [after0_6]
  exact codes_point m c t y _ e0 e1

/-! ## The maximum

The kernel keeps 8 × 256 running maxima. Each tile contributes, to the running maximum at `(r, l)`, its entries whose row is `r`
modulo 8 and whose column is `l` modulo 256. Two numbers with the same upper bounds are equal, so we say what the upper bounds of
the running maxima are. -/

/-- `B` bounds the absolute gated products that the tile at rows `q.1`, columns `q.2` of grid point `n`'s block contributes to the
    running maximum at `j`. -/
def Bounds (c : Dev nD) (B : EReal) (j : S8x256.Idx) (n : ℕ) (q : ℕ × ℕ) : Prop :=
  ∀ (x : Fin 32) (i : S4608x6144.Idx), (i 0 : ℕ) = n / 12 * 2304 + (q.1 + (x.val * 8 + (j 0).val)) →
    (i 1 : ℕ) = n % 12 * 512 + (q.2 + (j 1).val) → max (hid m c i) (-hid m c i) ≤ B

theorem reset_apply (j : S8x256.Idx) : k0_pay2 (F := Ideal) j = 0 := by
  pointwise [k0_pay2]

theorem step_apply (a b : Ideal .f32) (f f' : FVec Ideal S256x4096 .fp8e4m3) (w w' : FVec Ideal S4096x256 .fp8e4m3)
    (s : FVec Ideal S8x256 .f32) (j : S8x256.Idx) :
    k0_pay6 (F := Ideal) (k0_pay5 (F := Ideal) a b f w f' w' s) j
      = max (s j) (Finset.univ.fold max (Ideal.ofBits .f32 0xFF800000#32) fun x : Fin 32 =>
          FloatOps.absf (k0_pay4 (F := Ideal) a b f w f' w' (ix2 ⟨x.val * 8 + (j 0).val, by
            have := x.isLt; have := (j 0).isLt; have : (j 0).val < 8 := this; show _ < 256; omega⟩ (j 1)))) := by
  pointwise [k0_pay6, k0_pay5]

theorem neg_inf : Ideal.ofBits .f32 0xFF800000#32 = (⊥ : EReal) := by
  simp [Ideal.ofBits, Ideal.ieee]

theorem fold_le {α : Type} [Fintype α] (f : α → EReal) (B : EReal) : Finset.univ.fold max ⊥ f ≤ B ↔ ∀ x, f x ≤ B := by
  rw [Finset.fold_max_le]
  exact ⟨fun h x => h.2 x (Finset.mem_univ x), fun h => ⟨bot_le, fun x _ => h x⟩⟩

/-- One tile's step of the running maxima. -/
theorem step (c : Dev nD) (t : Fin cfg0.N) (j : S8x256.Idx) (B : EReal) (o p : ℕ)
    (i3 : ∀ a, (![o, 0] : Fin 2 → ℕ) a + (![256, 4096] : Fin 2 → ℕ) a ≤ S2304x4096.size a)
    (i4 : ∀ a, (![0, p] : Fin 2 → ℕ) a + (![4096, 256] : Fin 2 → ℕ) a ≤ S4096x512.size a) (s : FVec Ideal S8x256 .f32) (i0 i1 : S1.Idx) :
    k0_pay6 (F := Ideal) (k0_pay5 (F := Ideal)
      (View.ld (iblk m c 0 t) (Rect.unit ![0] ![1] inb_S1_S1_0) i0)
      (View.ld (iblk m c 1 t) (Rect.unit ![0] ![1] inb_S1_S1_0) i1)
      (View.ld (iblk m c 3 t) (Rect.unit ![o, 0] ![256, 4096] i3)) (View.ld (iblk m c 4 t) (Rect.unit ![0, p] ![4096, 256] i4))
      (View.ld (iblk m c 3 t) (Rect.unit ![o, 0] ![256, 4096] i3)) (View.ld (iblk m c 5 t) (Rect.unit ![0, p] ![4096, 256] i4)) s) j ≤ B
    ↔ s j ≤ B ∧ Bounds m c B j t.val (o, p) := by
  rw [step_apply, max_le_iff, Finset.fold_max_le, neg_inf]
  have hN : t.val < 24 := lt_of_lt_of_eq t.isLt (show cfg0.N = 24 from N_0)
  have ho : o + 256 ≤ 2304 := i3 0
  have hp : p + 256 ≤ 512 := i4 1
  have hj0 : (j 0).val < 8 := (j 0).isLt
  have hj1 : (j 1).val < 256 := (j 1).isLt
  refine and_congr Iff.rfl ⟨fun h x i e0 e1 => ?_, fun h => ⟨bot_le, fun x _ => ?_⟩⟩
  · have := h.2 x (Finset.mem_univ _)
    rw [Ideal.absf_def, tile_hid m c t _ i o p i3 i4 e0 e1 i0 i1] at this
    exact this
  · have hx : x.val < 32 := x.isLt
    have e0 : t.val / 12 * 2304 + (o + (x.val * 8 + (j 0).val)) < 4608 := by omega
    have e1 : t.val % 12 * 512 + (p + (j 1).val) < 6144 := by omega
    rw [Ideal.absf_def, tile_hid m c t _ (ix2 ⟨_, e0⟩ ⟨_, e1⟩) o p i3 i4 rfl rfl i0 i1]
    exact h x _ rfl rfl

/-- The tiles of one grid point, in the order in which it takes them. -/
def tiles : List (ℕ × ℕ) :=
  [(0, 0), (0, 256), (256, 0), (256, 256), (512, 0), (512, 256), (768, 0), (768, 256), (1024, 0), (1024, 256), (1280, 0), (1280, 256),
    (1536, 0), (1536, 256), (1792, 0), (1792, 256), (2048, 0), (2048, 256)]

theorem foldl_and {α : Type} (P : α → Prop) (L : List α) (a : Prop) :
    L.foldl (fun acc x => acc ∧ P x) a ↔ a ∧ ∀ x ∈ L, P x := by
  induction L generalizing a with
  | nil => simp
  | cons y L ih => rw [List.foldl_cons, ih, List.forall_mem_cons, and_assoc]

/-- The first grid point starts the running maxima at 0. -/
theorem point_A (c : Dev nD) (t : Fin cfg0.N) (h0 : t.val % 24 = 0) (j : S8x256.Idx) (B : EReal) :
    (outsAt0 m c t.val t.isLt).2.2 j ≤ B ↔ 0 ≤ B ∧ ∀ q ∈ tiles, Bounds m c B j t.val q := by
  rw [← foldl_and, outsAt0_A m c t h0 (by omega)]
  frame_out
  simp only [tiles, List.foldl_cons, List.foldl_nil]
  iterate 18 refine (step m c t j B _ _ _ _ _ _ _).trans (and_congr ?_ Iff.rfl)
  rw [reset_apply]

/-- Every other grid point goes on from what the point before left. -/
theorem point_B (c : Dev nD) (t : Fin cfg0.N) (h0 : ¬ t.val % 24 = 0) (j : S8x256.Idx) (B : EReal) :
    (outsAt0 m c t.val t.isLt).2.2 j ≤ B
    ↔ (outsAt0 m c (t.val - 1) (Nat.lt_of_le_of_lt (Nat.sub_le _ _) t.isLt)).2.2 j ≤ B ∧ ∀ q ∈ tiles, Bounds m c B j t.val q := by
  rw [← foldl_and]
  by_cases h1 : t.val % 24 = 23
  · rw [outsAt0_C m c t h0 h1]
    frame_out
    simp only [tiles, List.foldl_cons, List.foldl_nil]
    iterate 18 refine (step m c t j B _ _ _ _ _ _ _).trans (and_congr ?_ Iff.rfl)
    simp only [read_unread_whole]
  · rw [outsAt0_B m c t h0 h1]
    frame_out
    simp only [tiles, List.foldl_cons, List.foldl_nil]
    iterate 18 refine (step m c t j B _ _ _ _ _ _ _).trans (and_congr ?_ Iff.rfl)
    simp only [read_unread_whole]

/-- The running maxima after grid point `n`. -/
theorem scratch (c : Dev nD) (j : S8x256.Idx) (B : EReal) : ∀ (n : ℕ) (hn : n < cfg0.N),
    (outsAt0 m c n hn).2.2 j ≤ B ↔ 0 ≤ B ∧ ∀ k ≤ n, ∀ q ∈ tiles, Bounds m c B j k q := by
  intro n
  induction n with
  | zero =>
    intro hn
    rw [point_A m c ⟨0, hn⟩ rfl j B]
    simp only [Nat.le_zero, forall_eq]
  | succ n ih =>
    intro hn
    have hN : n + 1 < 24 := lt_of_lt_of_eq hn (show cfg0.N = 24 from N_0)
    rw [point_B m c ⟨n + 1, hn⟩ (by show ¬ (n + 1) % 24 = 0; omega) j B]
    refine (and_congr_left' (ih (by omega))).trans ⟨fun h => ⟨h.1.1, fun k hk => ?_⟩, fun h => ⟨⟨h.1, fun k hk => h.2 k (by omega)⟩, h.2 _ le_rfl⟩⟩
    rcases Nat.lt_or_ge n k with h' | h'
    · obtain rfl : k = n + 1 := by omega
      exact h.2
    · exact h.1.2 k h'

theorem abs_nonneg (x : EReal) : 0 ≤ max x (-x) := by
  rcases le_total 0 x with h | h
  · exact le_max_of_le_left h
  · exact le_max_of_le_right (EReal.neg_nonneg.mpr h)

/-- The tiles of all grid points together have every entry: all running maxima lie below `B` exactly if every absolute gated
    product does. -/
theorem cover (c : Dev nD) (B : EReal) :
    (∀ j : S8x256.Idx, 0 ≤ B ∧ ∀ k ≤ 23, ∀ q ∈ tiles, Bounds m c B j k q) ↔ ∀ i : S4608x6144.Idx, max (hid m c i) (-hid m c i) ≤ B := by
  refine ⟨fun h i => ?_, fun h j => ⟨(abs_nonneg _).trans (h (ix2 0 0)), fun k _ q _ x i _ _ => h i⟩⟩
  have hi0 : (i 0).val < 4608 := (i 0).isLt
  have hi1 : (i 1).val < 6144 := (i 1).isLt
  have ho : ∀ o < 9, ∀ p < 2, (o * 256, p * 256) ∈ tiles := by decide
  have hq := ho ((i 0).val % 2304 / 256) (by omega) ((i 1).val % 512 / 256) (by omega)
  refine (h (ix2 ⟨(i 0).val % 8, Nat.mod_lt _ (by omega)⟩ ⟨(i 1).val % 256, Nat.mod_lt _ (by omega)⟩)).2
    ((i 0).val / 2304 * 12 + (i 1).val / 512) (by omega) _ hq ⟨(i 0).val % 256 / 8, by omega⟩ i ?_ ?_
  · show (i 0).val = ((i 0).val / 2304 * 12 + (i 1).val / 512) / 12 * 2304 + ((i 0).val % 2304 / 256 * 256 + ((i 0).val % 256 / 8 * 8 + (i 0).val % 8))
    omega
  · show (i 1).val = ((i 0).val / 2304 * 12 + (i 1).val / 512) % 12 * 512 + ((i 1).val % 512 / 256 * 256 + (i 1).val % 256)
    omega

theorem last_apply (s : FVec Ideal S8x256 .f32) : k0_pay1 (F := Ideal) s
    = Finset.univ.fold max (Ideal.ofBits .f32 0xFF800000#32) fun x : Fin 8 × Fin 256 => s (ix2 x.1 x.2) := by
  pointwise [k0_pay1]

theorem ref_amax_apply (f : FVec Ideal S4608x4096 .fp8e4m3) (w : FVec Ideal S4096x12288 .fp8e4m3) (a b : Ideal .f32) :
    GateUpRefIdeal.Gen.k0_pay3 (F := Ideal) f w a b
      = Finset.univ.fold max (Ideal.ofBits .f32 0xFF800000#32) fun x : Fin 4608 × Fin 6144 =>
          FloatOps.absf (GateUpRefIdeal.Gen.k0_pay1 (F := Ideal) f w a b (ix2 x.1 x.2)) := by
  pointwise [GateUpRefIdeal.Gen.k0_pay3]

/-- The last grid point stores the greatest of the running maxima, which is the reference's maximum. -/
theorem amax_point (c : Dev nD) (t : Fin cfg0.N) (ht : t.val = 23) (y : S1.Idx) :
    (outsAt0 m c t.val t.isLt).2.1 y
    = GateUpRefIdeal.Gen.k0_pay3 (F := Ideal) (m (c.tc.loc main_arg0)) (m (c.tc.loc main_arg1)) (m (c.tc.loc main_arg2) (ix1 0))
        (m (c.tc.loc main_arg3) (ix1 0)) := by
  have hl : (outsAt0 m c t.val t.isLt).2.1 y = k0_pay1 (F := Ideal) (outsAt0 m c t.val t.isLt).2.2 := by
    rw [outsAt0_C m c t (by omega) (by omega)]
    frame_out
  rw [hl, last_apply, ref_amax_apply, neg_inf]
  refine eq_of_forall_ge_iff fun B => ?_
  rw [fold_le, fold_le]
  have e := cover m c B
  constructor
  · intro h x
    refine e.1 (fun j => ?_) (ix2 x.1 x.2)
    have := (scratch m c j B t.val t.isLt).1 (eq_ix2 j ▸ h (j 0, j 1))
    rw [ht] at this
    exact this
  · intro h x
    have ha : ∀ i : S4608x6144.Idx, max (hid m c i) (-hid m c i) ≤ B := fun i => by
      have hi := h (i 0, i 1)
      rw [Ideal.absf_def] at hi
      rw [eq_ix2 i]
      exact hi
    have hb := e.2 ha (ix2 x.1 x.2)
    rw [← ht] at hb
    exact (scratch m c (ix2 x.1 x.2) B t.val t.isLt).2 hb

/-- The maximum after the run is the reference's. -/
theorem amax_final (c : Dev nD) : (dats m 0 c).arrAt 7 cfg0.N
    = fun _ => GateUpRefIdeal.Gen.k0_pay3 (F := Ideal) (m (c.tc.loc main_arg0)) (m (c.tc.loc main_arg1)) (m (c.tc.loc main_arg2) (ix1 0))
        (m (c.tc.loc main_arg3) (ix1 0)) := by
  refine (dats m 0 c).arrAt_eq_of_after_last 7 ⟨23, by rw [show cfg0.N = 24 from N_0]; omega⟩ (by decide +kernel) _ fun j => ?_
  rw [after0_7]
  exact amax_point m c ⟨23, _⟩ rfl _

end Cert.GateUpIdeal.Hand

end
-- ==== Proof.GateUpClaim.lean ====
module

public import proofs.«01_k».proof.Proof.GateUpKernel
public import proofs.«01_k».proof.Defs

@[expose] public section

set_option maxRecDepth 16384

noncomputable section

namespace Cert.GateUpRefIdeal.Hand

open Cert.GateUpRefIdeal Cert.GateUpRefIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, 0] ∧ win0_1.index t = ![0, 0] ∧ win0_2.index t = ![0]
    ∧ win0_3.index t = ![0] ∧ win0_4.index t = ![0] ∧ win0_5.index t = ![0, 0] ∧ win0_6.index t = ![0] :=
  (by decide +kernel : ∀ t : Fin grid0.N, _)

/-- The reference has the whole of each array argument at its one grid point. -/
theorem whole0 (c : Dev nD) (t : Fin cfg0.N) : iblk m c 0 t = m (c.tc.loc main_arg0) := by
  funext i; blk_ext [iblk, V, idx t]

theorem whole1 (c : Dev nD) (t : Fin cfg0.N) : iblk m c 1 t = m (c.tc.loc main_arg1) := by
  funext i; blk_ext [iblk, V, idx t]

/-- And the three scalars. -/
theorem blk2 (c : Dev nD) (t : Fin cfg0.N) (i : S1.Idx) : iblk m c 2 t i = m (c.tc.loc main_arg2) (ix1 0) := by
  blk_ext [iblk, V, idx t]

theorem blk3 (c : Dev nD) (t : Fin cfg0.N) (i : S1.Idx) : iblk m c 3 t i = m (c.tc.loc main_arg3) (ix1 0) := by
  blk_ext [iblk, V, idx t]

theorem blk4 (c : Dev nD) (t : Fin cfg0.N) (i : S1.Idx) : iblk m c 4 t i = m (c.tc.loc main_arg4) (ix1 0) := by
  blk_ext [iblk, V, idx t]

/-- What the reference stores as codes, with the scalars named. -/
theorem codes_pay (c : Dev nD) (t : Fin cfg0.N) (i2 i3 i4 : S1.Idx) (j : S4608x6144.Idx) :
    k0_pay2 (F := Ideal) (iblk m c 0 t) (iblk m c 1 t) (iblk m c 2 t i2) (iblk m c 3 t i3) (iblk m c 4 t i4) j
    = k0_pay2 (F := Ideal) (m (c.tc.loc main_arg0)) (m (c.tc.loc main_arg1)) (m (c.tc.loc main_arg2) (ix1 0))
       (m (c.tc.loc main_arg3) (ix1 0)) (m (c.tc.loc main_arg4) (ix1 0)) j := by
  rw [blk2, blk3, blk4, whole0, whole1]

/-- What it stores as the maximum. -/
theorem amax_pay (c : Dev nD) (t : Fin cfg0.N) (i2 i3 : S1.Idx) :
    k0_pay3 (F := Ideal) (iblk m c 0 t) (iblk m c 1 t) (iblk m c 2 t i2) (iblk m c 3 t i3)
    = k0_pay3 (F := Ideal) (m (c.tc.loc main_arg0)) (m (c.tc.loc main_arg1)) (m (c.tc.loc main_arg2) (ix1 0))
       (m (c.tc.loc main_arg3) (ix1 0)) := by
  rw [blk2, blk3, whole0, whole1]

/-- The reference's codes after the run. -/
theorem codes_final (c : Dev nD) : (dats m 0 c).arrAt 5 cfg0.N
    = k0_pay2 (F := Ideal) (m (c.tc.loc main_arg0)) (m (c.tc.loc main_arg1)) (m (c.tc.loc main_arg2) (ix1 0))
       (m (c.tc.loc main_arg3) (ix1 0)) (m (c.tc.loc main_arg4) (ix1 0)) := by
  refine (dats m 0 c).arrAt_eq_of_covers 5 _ (by decide +kernel) fun t _ y => ?_
  have e : ((cfg0.win 5).blk t).view.emb y = y := by
    funext a; fin_cases a <;> (apply Fin.ext; blk_simp [idx t])
  blk_simp
  rw [after0_5]
  unfold outsAt0; frame_out
  simp only [read_unread_whole]
  rw [e]
  exact codes_pay m c t _ _ _ y

/-- The reference's maximum after the run. -/
theorem amax_final (c : Dev nD) : (dats m 0 c).arrAt 6 cfg0.N
    = fun _ => k0_pay3 (F := Ideal) (m (c.tc.loc main_arg0)) (m (c.tc.loc main_arg1)) (m (c.tc.loc main_arg2) (ix1 0))
       (m (c.tc.loc main_arg3) (ix1 0)) := by
  refine (dats m 0 c).arrAt_eq_of_covers 6 _ (by decide +kernel) fun t _ y => ?_
  blk_simp
  rw [after0_6]
  unfold outsAt0; frame_out
  simp only [read_unread_whole]
  exact amax_pay m c t _ _

end Cert.GateUpRefIdeal.Hand

namespace Cert.GateUp.Hand

open Idealize.ShloMosaic Idealize.ShloMosaic.TcCoe Idealize.SL.Sem

/-- The kernel and the reference, run on the same arguments over the reals, leave the same codes and the same maximum. -/
theorem algebraic [Cert.GateUpIdeal.Facts] [Cert.GateUpRefIdeal.Facts] : Cert.algebraic_GateUpIdeal_GateUpRefIdeal := by
  intro m g m' g' _ hm
  refine ⟨fun c => (Cert.GateUpIdeal.Gen.dats m 0 c).arrAt 6 Cert.GateUpIdeal.cfg0.N,
    fun c => (Cert.GateUpIdeal.Gen.dats m 0 c).arrAt 7 Cert.GateUpIdeal.cfg0.N, Cert.GateUpIdeal.Value.run_blocks m g, ?_⟩
  refine (θ_run _ _ _).mono (fun r h c => ⟨(h c).1.trans ?_, (h c).2.1.trans ?_, (h c).2.2⟩) (Cert.GateUpRefIdeal.Value.run_blocks m' g')
  · obtain ⟨h0, h1, h2, h3, h4⟩ := hm c
    refine (Cert.GateUpRefIdeal.Hand.codes_final m' c).trans (Eq.trans ?_ (Cert.GateUpIdeal.Hand.codes_final m c).symm)
    rw [h0, h1, h2, h3, h4]
  · obtain ⟨h0, h1, h2, h3, h4⟩ := hm c
    refine (Cert.GateUpRefIdeal.Hand.amax_final m' c).trans (Eq.trans ?_ (Cert.GateUpIdeal.Hand.amax_final m c).symm)
    rw [h0, h1, h2, h3]
    rfl

end Cert.GateUp.Hand

end
-- ==== Proof.DownKernel.lean ====
module

public import proofs.«01_k».proof.Proof.Gen.DownIdeal.Value
public import proofs.«01_k».proof.Proof.Gen.DownRefIdeal.Value
public import Idealize.ShloMosaic.Lib.Pipeline.ValueKit

@[expose] public section

set_option maxRecDepth 16384

noncomputable section

namespace Cert.DownIdeal.Hand

open Cert.DownIdeal Cert.DownIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0] ∧ win0_1.index t = ![0] ∧ win0_2.index t = ![t.val, 0]
    ∧ win0_3.index t = ![t.val, 0] ∧ win0_4.index t = ![0, 0] ∧ win0_5.index t = ![t.val, 0] :=
  (by decide +kernel : ∀ t : Fin grid0.N, _)

/-- The reference's result at row `r` and column `e`. -/
theorem ref_apply (H1 : FVec Ideal S4608x4096 .f32) (H : FVec Ideal S4608x6144 .fp8e4m3) (W : FVec Ideal S6144x4096 .fp8e4m3)
    (a b : Ideal .f32) (j : S4608x4096.Idx) :
    DownRefIdeal.Gen.k0_pay1 (F := Ideal) H1 H W a b j
      = H1 j + (∑ k : Fin 6144, H (ix2 (j 0) k) * W (ix2 k (j 1))) * (a * b) := by
  pointwise [DownRefIdeal.Gen.k0_pay1]

/-- One column tile of the kernel's result at an entry. -/
theorem pay_apply (h1 : FVec Ideal S256x256 .f32) (h : FVec Ideal S256x6144 .fp8e4m3) (w : FVec Ideal S6144x256 .fp8e4m3)
    (a b : Ideal .f32) (x : S256x256.Idx) :
    k0_pay2 (F := Ideal) (k0_pay3 a b) h h1 w x
      = h1 x + (∑ k : Fin 6144, h (ix2 (x 0) k) * w (ix2 k (x 1))) * (a * b) := by
  pointwise [k0_pay2, k0_pay3]

/-- The scalar `hs` at every grid point. -/
theorem blk0 (c : Dev nD) (t : Fin cfg0.N) (i : S1.Idx) : iblk m c 0 t i = m (c.tc.loc main_arg3) (ix1 0) := by
  blk_ext [iblk, V, idx t]

/-- The scalar `ws` at every grid point. -/
theorem blk1 (c : Dev nD) (t : Fin cfg0.N) (i : S1.Idx) : iblk m c 1 t i = m (c.tc.loc main_arg4) (ix1 0) := by
  blk_ext [iblk, V, idx t]

/-- Grid point `t` has rows `256 t` to `256 t + 255` of the codes. -/
theorem blk2 (c : Dev nD) (t : Fin cfg0.N) (i : S256x6144.Idx) (j : S4608x6144.Idx)
    (h0 : (j 0 : ℕ) = t.val * 256 + i 0) (h1 : (j 1 : ℕ) = i 1) :
    iblk m c 2 t i = m (c.tc.loc main_arg0) j := by
  blk_ext [iblk, V, idx t]

/-- Grid point `t` has the same rows of the residual. -/
theorem blk3 (c : Dev nD) (t : Fin cfg0.N) (i : S256x4096.Idx) (j : S4608x4096.Idx)
    (h0 : (j 0 : ℕ) = t.val * 256 + i 0) (h1 : (j 1 : ℕ) = i 1) :
    iblk m c 3 t i = m (c.tc.loc main_arg1) j := by
  blk_ext [iblk, V, idx t]

/-- Every grid point has the whole weight. -/
theorem blk4 (c : Dev nD) (t : Fin cfg0.N) (i j : S6144x4096.Idx)
    (h0 : (j 0 : ℕ) = i 0) (h1 : (j 1 : ℕ) = i 1) :
    iblk m c 4 t i = m (c.tc.loc main_arg2) j := by
  blk_ext [iblk, V, idx t]

/-- One column tile of what grid point `t` stores. The tile starts at column `o`; the stored value at its entry `x` is the
    entry `j` of the reference's result, where `j` is `x` moved down by the point's 256 rows and right by `o` columns. -/
theorem tile (c : Dev nD) (t : Fin cfg0.N) (x : S256x256.Idx) (j : S4608x4096.Idx) (o : ℕ)
    (i3 : ∀ a, (![0, o] : Fin 2 → ℕ) a + (![256, 256] : Fin 2 → ℕ) a ≤ S256x4096.size a)
    (i4 : ∀ a, (![0, o] : Fin 2 → ℕ) a + (![6144, 256] : Fin 2 → ℕ) a ≤ S6144x4096.size a)
    (h0 : (j 0 : ℕ) = t.val * 256 + x 0) (h1 : (j 1 : ℕ) = o + x 1) (i0 i1 : S1.Idx) :
    k0_pay2 (F := Ideal)
      (k0_pay3 (View.ld (iblk m c 0 t) (Rect.unit ![0] ![1] inb_S1_S1_0) i0)
        (View.ld (iblk m c 1 t) (Rect.unit ![0] ![1] inb_S1_S1_0) i1))
      (iblk m c 2 t) (View.ld (iblk m c 3 t) (Rect.unit ![0, o] ![256, 256] i3))
      (View.ld (iblk m c 4 t) (Rect.unit ![0, o] ![6144, 256] i4)) x =
    DownRefIdeal.Gen.k0_pay1 (m (c.tc.loc main_arg1)) (m (c.tc.loc main_arg0)) (m (c.tc.loc main_arg2))
      (m (c.tc.loc main_arg3) (ix1 0)) (m (c.tc.loc main_arg4) (ix1 0)) j := by
  refine (pay_apply _ _ _ _ _ x).trans (Eq.trans ?_ (ref_apply _ _ _ _ _ j).symm)
  refine Ideal.add_congr ?_ (Ideal.mul_congr (Finset.sum_congr rfl fun k _ => Ideal.mul_congr ?_ ?_) (Ideal.mul_congr ?_ ?_))
  · exact blk3 m c t _ j (by rw [h0, Rect.idx_unit_val]; exact congrArg _ (Nat.zero_add _).symm) (by rw [h1, Rect.idx_unit_val]; rfl)
  · exact blk2 m c t _ _ h0 rfl
  · exact blk4 m c t _ _ (by rw [Rect.idx_unit_val]; exact (Nat.zero_add _).symm) (by rw [Rect.idx_unit_val]; exact h1)
  · exact blk0 m c t _
  · exact blk1 m c t _

/-- What grid point `t` stores, at entry `y` of its block of 256 rows, is the entry `j` of the reference's result, where `j`
    is `y` moved down by the point's 256 rows. -/
theorem point (c : Dev nD) (t : Fin cfg0.N) (y : S256x4096.Idx) (j : S4608x4096.Idx)
    (e0 : (j 0 : ℕ) = t.val * 256 + y 0) (e1 : (j 1 : ℕ) = y 1) :
    outsAt0 m c t y = DownRefIdeal.Gen.k0_pay1 (F := Ideal) (m (c.tc.loc main_arg1)) (m (c.tc.loc main_arg0)) (m (c.tc.loc main_arg2))
      (m (c.tc.loc main_arg3) (ix1 0)) (m (c.tc.loc main_arg4) (ix1 0)) j := by
  unfold outsAt0; frame_out
  canon_tiles x h
  all_goals first
    | exact tile m c t x j _ _ _ (e0.trans (by rw [h0])) (e1.trans h1) _ _
    | exact tile m c t x j 0 _ _ (e0.trans (by rw [h0])) (e1.trans (h1.trans (Nat.zero_add _).symm)) _ _

/-- The kernel's result array after the run is the reference's result of the kernel's arguments. -/
theorem final (c : Dev nD) : (dats m 0 c).arrAt 5 cfg0.N
    = DownRefIdeal.Gen.k0_pay1 (F := Ideal) (m (c.tc.loc main_arg1)) (m (c.tc.loc main_arg0)) (m (c.tc.loc main_arg2))
       (m (c.tc.loc main_arg3) (ix1 0)) (m (c.tc.loc main_arg4) (ix1 0)) := by
  refine (dats m 0 c).arrAt_eq_of_covers 5 _ (by decide +kernel) fun t _ y => ?_
  blk_simp
  have e0 : ((((cfg0.win 5).blk t).view.emb y) 0 : ℕ) = t.val * 256 + y 0 := by blk_simp [idx t]
  have e1 : ((((cfg0.win 5).blk t).view.emb y) 1 : ℕ) = y 1 := by blk_simp [idx t]
  rw [after0_5]
  exact point m c t y _ e0 e1

end Cert.DownIdeal.Hand

end
-- ==== Proof.DownClaim.lean ====
module

public import proofs.«01_k».proof.Proof.DownKernel
public import proofs.«01_k».proof.Defs
public import Idealize.ShloMosaic.Lib.Pipeline.ReadBack

@[expose] public section

set_option maxRecDepth 16384

noncomputable section

namespace Cert.DownRefIdeal.Hand

open Cert.DownRefIdeal Cert.DownRefIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0] ∧ win0_4.index t = ![0] ∧ win0_5.index t = ![0, 0] :=
  (by decide +kernel : ∀ t : Fin grid0.N, _)

/-- The reference has the whole of each array argument at its one grid point. -/
theorem whole0 (c : Dev nD) (t : Fin cfg0.N) : iblk m c 0 t = m (c.tc.loc main_arg0) := by
  funext i; blk_ext [iblk, V, idx t]

theorem whole1 (c : Dev nD) (t : Fin cfg0.N) : iblk m c 1 t = m (c.tc.loc main_arg1) := by
  funext i; blk_ext [iblk, V, idx t]

theorem whole2 (c : Dev nD) (t : Fin cfg0.N) : iblk m c 2 t = m (c.tc.loc main_arg2) := by
  funext i; blk_ext [iblk, V, idx t]

/-- And both scalars. -/
theorem blk3 (c : Dev nD) (t : Fin cfg0.N) (i : S1.Idx) : iblk m c 3 t i = m (c.tc.loc main_arg3) (ix1 0) := by
  blk_ext [iblk, V, idx t]

theorem blk4 (c : Dev nD) (t : Fin cfg0.N) (i : S1.Idx) : iblk m c 4 t i = m (c.tc.loc main_arg4) (ix1 0) := by
  blk_ext [iblk, V, idx t]

/-- What the reference stores, with the scalars named. -/
theorem pay (c : Dev nD) (t : Fin cfg0.N) (i3 i4 : S1.Idx) (j : S4608x4096.Idx) :
    k0_pay1 (F := Ideal) (iblk m c 1 t) (iblk m c 0 t) (iblk m c 2 t)
      (iblk m c 3 t i3) (iblk m c 4 t i4) j
    = k0_pay1 (F := Ideal) (m (c.tc.loc main_arg1)) (m (c.tc.loc main_arg0)) (m (c.tc.loc main_arg2))
       (m (c.tc.loc main_arg3) (ix1 0)) (m (c.tc.loc main_arg4) (ix1 0)) j := by
  rw [blk3, blk4, whole0, whole1, whole2]

/-- The reference's result array after the run. -/
theorem final (c : Dev nD) : (dats m 0 c).arrAt 5 cfg0.N
    = k0_pay1 (F := Ideal) (m (c.tc.loc main_arg1)) (m (c.tc.loc main_arg0)) (m (c.tc.loc main_arg2))
       (m (c.tc.loc main_arg3) (ix1 0)) (m (c.tc.loc main_arg4) (ix1 0)) := by
  refine (dats m 0 c).arrAt_eq_of_covers 5 _ (by decide +kernel) fun t _ y => ?_
  have e : ((cfg0.win 5).blk t).view.emb y = y := by
    funext a; fin_cases a <;> (apply Fin.ext; blk_simp [idx t])
  blk_simp
  rw [after0_5]
  unfold outsAt0; frame_out
  simp only [read_unread_whole]
  rw [e]
  exact pay m c t _ _ y

end Cert.DownRefIdeal.Hand

namespace Cert.Down.Hand

open Idealize.ShloMosaic Idealize.ShloMosaic.TcCoe Idealize.SL.Sem

/-- The kernel and the reference, run on the same arguments over the reals, leave the same result. -/
theorem algebraic [Cert.DownIdeal.Facts] [Cert.DownRefIdeal.Facts] : Cert.algebraic_DownIdeal_DownRefIdeal := by
  intro m g m' g' _ hm
  refine ⟨fun c => (Cert.DownIdeal.Gen.dats m 0 c).arrAt 5 Cert.DownIdeal.cfg0.N, Cert.DownIdeal.Value.run_blocks m g, ?_⟩
  refine (θ_run _ _ _).mono (fun r h c => ⟨(h c).1.trans ?_, (h c).2⟩) (Cert.DownRefIdeal.Value.run_blocks m' g')
  obtain ⟨h0, h1, h2, h3, h4⟩ := hm c
  refine (Cert.DownRefIdeal.Hand.final m' c).trans (Eq.trans ?_ (Cert.DownIdeal.Hand.final m c).symm)
  rw [h0, h1, h2, h3, h4]

end Cert.Down.Hand

end
-- ==== Proof.lean ====
/- Everything the claim says: every run of each program keeps its arguments and ends (the frames), making the kernels real-valued
   changes nothing but the arithmetic (preserves), and kernel and reference then have the same results (algebraic). The frames come
   from the generated modules; the equalities from QkvClaim, GateUpClaim and DownClaim. -/
module

public import proofs.«01_k».proof.Defs
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Skeleton
public import proofs.«01_k».proof.Proof.Gen.QkvRefIdeal.Launch
public import proofs.«01_k».proof.Proof.Gen.QkvRefIdeal.Points
public import proofs.«01_k».proof.Proof.Gen.QkvRefIdeal.Frame
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpRefIdeal
public import proofs.«01_k».proof.Proof.Gen.GateUpRefIdeal.Skeleton
public import proofs.«01_k».proof.Proof.Gen.GateUpRefIdeal.Launch
public import proofs.«01_k».proof.Proof.Gen.GateUpRefIdeal.Points
public import proofs.«01_k».proof.Proof.Gen.GateUpRefIdeal.Frame
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownRefIdeal.Skeleton
public import proofs.«01_k».proof.Proof.Gen.DownRefIdeal.Launch
public import proofs.«01_k».proof.Proof.Gen.DownRefIdeal.Points
public import proofs.«01_k».proof.Proof.Gen.DownRefIdeal.Frame
public import proofs.«01_k».proof.Proof.Gen.QkvIdeal.Value
public import proofs.«01_k».proof.Proof.Gen.QkvRefIdeal.Value
public import proofs.«01_k».proof.Proof.Gen.GateUpIdeal.Value
public import proofs.«01_k».proof.Proof.Gen.GateUpRefIdeal.Value
public import proofs.«01_k».proof.Proof.Gen.DownIdeal.Value
public import proofs.«01_k».proof.Proof.Gen.DownRefIdeal.Value
public import proofs.«01_k».proof.Proof.QkvClaim
public import proofs.«01_k».proof.Proof.GateUpClaim
public import proofs.«01_k».proof.Proof.DownClaim
public import Idealize.ShloMosaic.Adequacy
public import Idealize.ShloMosaic.Init

@[expose] public section

noncomputable section

namespace Cert.Proof

open Idealize.ShloMosaic Idealize.SL.Sem Cert.GateUp

theorem claim : Cert.Claim := ⟨Cert.Qkv.Gen.facts, Cert.QkvIdeal.Gen.facts, Cert.QkvRefIdeal.Gen.facts, Cert.GateUp.Gen.facts, Cert.GateUpIdeal.Gen.facts, Cert.GateUpRefIdeal.Gen.facts, Cert.Down.Gen.facts, Cert.DownIdeal.Gen.facts, Cert.DownRefIdeal.Gen.facts,
  fun m ρ _ => Cert.Qkv.Gen.frame m ρ,
  fun m ρ _ => Cert.QkvIdeal.Gen.frame m ρ,
  fun m ρ _ => Cert.QkvRefIdeal.Gen.frame m ρ,
  fun m ρ _ => Cert.GateUp.Gen.frame m ρ,
  fun m ρ _ => Cert.GateUpIdeal.Gen.frame m ρ,
  fun m ρ _ => Cert.GateUpRefIdeal.Gen.frame m ρ,
  fun m ρ _ => Cert.Down.Gen.frame m ρ,
  fun m ρ _ => Cert.DownIdeal.Gen.frame m ρ,
  fun m ρ _ => Cert.DownRefIdeal.Gen.frame m ρ,
  trivial,
  Cert.Qkv.Hand.algebraic,
  trivial,
  Cert.GateUp.Hand.algebraic,
  trivial,
  Cert.Down.Hand.algebraic⟩

end Cert.Proof

end
